-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered [hPre_ordered : Cert.Pre_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered [hPre_ordered : Cert.Pre_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordered [hKernelIdeal : Cert.KernelIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordered [hReferenceIdeal : Cert.ReferenceIdeal.Facts] [hPre_ordered : Cert.Pre_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ordered [hKernelIdeal : Cert.KernelIdeal.Facts] [hReferenceIdeal : Cert.ReferenceIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordered : Cert.Pre_ordered.Facts),
    quiescent_Kernel (hKernel := hKernel)
    ∧ quiescent_KernelIdeal (hKernelIdeal := hKernelIdeal)
    ∧ quiescent_KernelIdeal_pre_ordered (hKernelIdeal := hKernelIdeal) (hPre_ordered := hPre_ordered)
    ∧ quiescent_ReferenceIdeal (hReferenceIdeal := hReferenceIdeal)
    ∧ quiescent_ReferenceIdeal_pre_ordered (hReferenceIdeal := hReferenceIdeal) (hPre_ordered := hPre_ordered)
    ∧ preserves_Kernel_KernelIdeal
    ∧ algebraic_KernelIdeal_ReferenceIdeal_pre_ordered (hKernelIdeal := hKernelIdeal) (hReferenceIdeal := hReferenceIdeal) (hPre_ordered := hPre_ordered)
-- ==== Pre_ordered.lean ====
abbrev S8x512x768 : Shape := ⟨3, ![8, 512, 768]⟩
abbrev S8x512 : Shape := ⟨2, ![8, 512]⟩
abbrev S_ : Shape := ⟨0, ![]⟩
abbrev S8x511 : Shape := ⟨2, ![8, 511]⟩

class Facts : Prop where
  slices_S8x512_S8x511_0_1 : S8x512.Slices ![0, 1] S8x511
  slices_S8x512_S8x511_0_0 : S8x512.Slices ![0, 0] S8x511
  reducesTo_S8x511_S_d0_1 : S8x511.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x512x768 .f32) (main_arg1 : FVec F S8x512 .f32) (main_arg2 : FVec F S_ .f32) (main_arg3 : FVec F S_ .f32) : IVec S_ 1 :=
  let main_v0 : FVec F S8x511 .f32 := (extractStridedSlice S8x511 ![0, 1] · slices_S8x512_S8x511_0_1) main_arg1
  let main_v1 : FVec F S8x511 .f32 := (extractStridedSlice S8x511 ![0, 0] · slices_S8x512_S8x511_0_0) main_arg1
  let main_v2 : IVec S8x511 1 := cmpf .ogt main_v0 main_v1
  let main_c : IVec S_ 1 := constantI S_ 1 1#1
  let main_v3 : IVec S_ 1 := (fun x v => Host.reduce IntOp.andi x v reducesTo_S8x511_S_d0_1 h_S_) main_v2 main_c
  let main_v4 : FVec F S8x512 .f32 := Host.absf main_arg1
  let main_cst : FVec F S_ .f32 := constant S_ .f32 0x7F800000#32
  let main_v5 : FVec F S8x512 .f32 := broadcastInDim S8x512 ![] bcast_S_S8x512 main_cst
  let main_v6 : IVec S8x512 1 := cmpf .olt main_v4 main_v5
  let main_c_0 : IVec S_ 1 := constantI S_ 1 1#1
  let main_v7 : IVec S_ 1 := (fun x v => Host.reduce IntOp.andi x v reducesTo_S8x512_S_d0_1 h_S_) main_v6 main_c_0
  let main_v8 : FVec F S_ .f32 := Host.absf main_arg3
  let main_cst_1 : FVec F S_ .f32 := constant S_ .f32 0x7F800000#32
  let main_v9 : IVec S_ 1 := cmpf .olt main_v8 main_cst_1
  let main_v10 : IVec S_ 1 := andi main_v3 main_v7
  let main_v11 : IVec S_ 1 := andi main_v10 main_v9
  main_v11
-- ==== Kernel.lean ====
abbrev S8x512x768 : Shape := ⟨3, ![8, 512, 768]⟩
abbrev S8x512 : Shape := ⟨2, ![8, 512]⟩
abbrev S_ : Shape := ⟨0, ![]⟩
abbrev S16 : Shape := ⟨1, ![16]⟩
abbrev S1 : Shape := ⟨1, ![1]⟩
abbrev S512 : Shape := ⟨1, ![512]⟩
abbrev S2x256x128 : Shape := ⟨3, ![2, 256, 128]⟩
abbrev S1x256x128 : Shape := ⟨3, ![1, 256, 128]⟩
abbrev S256x128 : Shape := ⟨2, ![256, 128]⟩
abbrev S1x512 : Shape := ⟨2, ![1, 512]⟩
abbrev S1x16 : Shape := ⟨2, ![1, 16]⟩
abbrev S8x512x1 : Shape := ⟨3, ![8, 512, 1]⟩
abbrev S2 : Shape := ⟨1, ![2]⟩
abbrev S1x2 : Shape := ⟨2, ![1, 2]⟩
abbrev S8x512x256 : Shape := ⟨3, ![8, 512, 256]⟩
abbrev S1x512x1 : Shape := ⟨3, ![1, 512, 1]⟩
abbrev S1x512x256 : Shape := ⟨3, ![1, 512, 256]⟩
abbrev S1x1 : Shape := ⟨2, ![1, 1]⟩
abbrev S512x1 : Shape := ⟨2, ![512, 1]⟩
abbrev S512x256 : Shape := ⟨2, ![512, 256]⟩
abbrev S512x512 : Shape := ⟨2, ![512, 512]⟩
abbrev S511x512 : Shape := ⟨2, ![511, 512]⟩
abbrev S2x512 : Shape := ⟨2, ![2, 512]⟩
abbrev S510x512 : Shape := ⟨2, ![510, 512]⟩
abbrev S4x512 : Shape := ⟨2, ![4, 512]⟩
abbrev S508x512 : Shape := ⟨2, ![508, 512]⟩
abbrev S504x512 : Shape := ⟨2, ![504, 512]⟩
abbrev S16x512 : Shape := ⟨2, ![16, 512]⟩
abbrev S496x512 : Shape := ⟨2, ![496, 512]⟩
abbrev S32x512 : Shape := ⟨2, ![32, 512]⟩
abbrev S480x512 : Shape := ⟨2, ![480, 512]⟩
abbrev S64x512 : Shape := ⟨2, ![64, 512]⟩
abbrev S448x512 : Shape := ⟨2, ![448, 512]⟩
abbrev S128x512 : Shape := ⟨2, ![128, 512]⟩
abbrev S384x512 : Shape := ⟨2, ![384, 512]⟩
abbrev S256x512 : Shape := ⟨2, ![256, 512]⟩

abbrev nBuf : Table → Nat
  | .hbm => 21
  | .local .tc .vmem => 6
  | .local .tc .smem => 1
  | .local .scVector .vmem => 4
  | _ => 0

abbrev bufTy : (tb : Table) → Fin (nBuf tb) → BufTy
  | .hbm, ⟨0, _⟩ => ⟨S8x512x768, .f32⟩
  | .hbm, ⟨1, _⟩ => ⟨S8x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16, .f32⟩
  | .hbm, ⟨6, _⟩ => ⟨S_, .i32⟩
  | .hbm, ⟨7, _⟩ => ⟨S1, .i32⟩
  | .hbm, ⟨8, _⟩ => ⟨S16, .f32⟩
  | .hbm, ⟨9, _⟩ => ⟨S_, .i32⟩
  | .hbm, ⟨10, _⟩ => ⟨S1, .i32⟩
  | .hbm, ⟨11, _⟩ => ⟨S16, .f32⟩
  | .hbm, ⟨12, _⟩ => ⟨S8x512x768, .f32⟩
  | .hbm, ⟨13, _⟩ => ⟨S8x512x1, .f32⟩
  | .hbm, ⟨14, _⟩ => ⟨S2, .f32⟩
  | .hbm, ⟨15, _⟩ => ⟨S1x2, .f32⟩
  | .hbm, ⟨16, _⟩ => ⟨S8x512x256, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x512x768, .f32⟩
  | .local .tc .vmem, ⟨0, _⟩ => ⟨S1x512x1, .f32⟩
  | .local .tc .vmem, ⟨1, _⟩ => ⟨S1x512x1, .f32⟩
  | .local .tc .vmem, ⟨2, _⟩ => ⟨S1x512x256, .f32⟩
  | .local .tc .vmem, ⟨3, _⟩ => ⟨S1x512x256, .f32⟩
  | .local .tc .vmem, ⟨4, _⟩ => ⟨S1x512x256, .f32⟩
  | .local .tc .vmem, ⟨5, _⟩ => ⟨S1x512x256, .f32⟩
  | .local .tc .smem, ⟨0, _⟩ => ⟨S1x2, .f32⟩
  | .local .scVector .vmem, ⟨0, _⟩ => ⟨S16, .f32⟩
  | .local .scVector .vmem, ⟨1, _⟩ => ⟨S512, .f32⟩
  | .local .scVector .vmem, ⟨2, _⟩ => ⟨S512, .f32⟩
  | .local .scVector .vmem, ⟨3, _⟩ => ⟨S2x256x128, .f32⟩
  | _, _ => ⟨S8x512x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_c_3 : Ref sig .tc := ⟨.hbm, 19, rfl⟩
abbrev main_v10 : Ref sig .tc := ⟨.hbm, 20, rfl⟩
abbrev main_arg0_scv : Ref sig .scVector := ⟨.hbm, 0, rfl⟩
abbrev main_arg1_scv : Ref sig .scVector := ⟨.hbm, 1, rfl⟩
abbrev main_v4_scv : Ref sig .scVector := ⟨.hbm, 11, rfl⟩
abbrev main_v5_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_13 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c256_i32 : BitVec 32 := 256#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 256, v29.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_48_r1 : BitVec 32 := 0#32
  ![v18.toNat, 0]

def k0_chk1 (v49 : IVec S16 32) : Prop :=
  (∀ a x, ((![v49] : Fin 1 → IVec S16 32) a x).toNat < S16.size a)
theorem k0_idx1_inb : ∀ (v49 : IVec S16 32) (k0_hw1 : k0_chk1 v49), ∀ a x, ((![v49] : Fin 1 → IVec S16 32) a x).toNat < S16.size a := fun v49 k0_hw1 => k0_hw1

def k0_chk2 (v52 : IVec S16 32) : Prop :=
  (∀ a x, ((![v52] : Fin 1 → IVec S16 32) a x).toNat < S16.size a)
theorem k0_idx2_inb : ∀ (v52 : IVec S16 32) (k0_hw2 : k0_chk2 v52), ∀ a x, ((![v52] : Fin 1 → IVec S16 32) a x).toNat < S16.size a := fun v52 k0_hw2 => k0_hw2
@[reducible] def k0_t1_loop : Scf.Loop 32 :=
  let c0_i32_27 : BitVec 32 := 0#32
  let c32_i32 : BitVec 32 := 32#32
  let v54 : BitVec 32 := Scalar.addi c0_i32_27 c32_i32
  let c1_i32_28 : BitVec 32 := 1#32
  ⟨c0_i32_27, v54, c1_i32_28⟩
def k0_off4 (k0_t1 : Fin k0_t1_loop.trips) : Fin 1 → Nat :=
  let c0_i32_27 : BitVec 32 := 0#32
  let c1_i32_28 : BitVec 32 := 1#32
  let arg14 : BitVec 32 := Scf.iv c0_i32_27 c1_i32_28 k0_t1
  let c16_i32_51 : BitVec 32 := 16#32
  let v84 : BitVec 32 := Scalar.muli arg14 c16_i32_51
  let v85 : Index := Scalar.indexCast v84
  ![v85.toNat]

def k0_chk3 (v83 : IVec S16 32) : Prop :=
  (∀ a x, ((![v83] : Fin 1 → IVec S16 32) a x).toNat < S512.size a)
theorem k0_idx3_inb : ∀ (v83 : IVec S16 32) (k0_hw3 : k0_chk3 v83), ∀ a x, ((![v83] : Fin 1 → IVec S16 32) a x).toNat < S512.size a := fun v83 k0_hw3 => k0_hw3
def k0_off5 (k0_t1 : Fin k0_t1_loop.trips) : Fin 1 → Nat :=
  let c0_i32_27 : BitVec 32 := 0#32
  let c1_i32_28 : BitVec 32 := 1#32
  let arg14 : BitVec 32 := Scf.iv c0_i32_27 c1_i32_28 k0_t1
  let c16_i32_52 : BitVec 32 := 16#32
  let v91 : BitVec 32 := Scalar.muli arg14 c16_i32_52
  let v92 : Index := Scalar.indexCast v91
  ![v92.toNat]
@[reducible] def k0_t2_loop : Scf.Loop 32 :=
  let c0_i32_30 : BitVec 32 := 0#32
  let c2_i32_31 : BitVec 32 := 2#32
  let v57 : BitVec 32 := Scalar.addi c0_i32_30 c2_i32_31
  let c1_i32_32 : BitVec 32 := 1#32
  ⟨c0_i32_30, v57, c1_i32_32⟩
def k0_cond1 (k0_t2 : Fin k0_t2_loop.trips) : BitVec 1 :=
  let c0_i32_30 : BitVec 32 := 0#32
  let c1_i32_32 : BitVec 32 := 1#32
  let arg14 : BitVec 32 := Scf.iv c0_i32_30 c1_i32_32 k0_t2
  let c0_i32_48 : BitVec 32 := 0#32
  let v75 : BitVec 1 := Scalar.cmpi .eq arg14 c0_i32_48
  let v76 : BitVec 32 := Scalar.extui v75
  let c0_i32_49 : BitVec 32 := 0#32
  let v77 : BitVec 1 := Scalar.cmpi .ne v76 c0_i32_49
  v77

def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_63 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
def k0_cond2 (k0_t2 : Fin k0_t2_loop.trips) : BitVec 1 :=
  let c0_i32_30 : BitVec 32 := 0#32
  let c1_i32_32 : BitVec 32 := 1#32
  let arg14 : BitVec 32 := Scf.iv c0_i32_30 c1_i32_32 k0_t2
  let c1_i32_50 : BitVec 32 := 1#32
  let v78 : BitVec 1 := Scalar.cmpi .eq arg14 c1_i32_50
  let v79 : BitVec 32 := Scalar.extui v78
  let c0_i32_51 : BitVec 32 := 0#32
  let v80 : BitVec 1 := Scalar.cmpi .ne v79 c0_i32_51
  v80

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c256_i32_63 : BitVec 32 := 256#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 256, v29.toNat]
@[reducible] def k0_t3_loop : Scf.Loop 32 :=
  let c0_i32_52 : BitVec 32 := 0#32
  let c32_i32_53 : BitVec 32 := 32#32
  let v81 : BitVec 32 := Scalar.addi c0_i32_52 c32_i32_53
  let c1_i32_54 : BitVec 32 := 1#32
  ⟨c0_i32_52, v81, c1_i32_54⟩

def k0_chk4 (v93 : IVec S16 32) : Prop :=
  (∀ a x, ((![v93] : Fin 1 → IVec S16 32) a x).toNat < S512.size a)
theorem k0_idx4_inb : ∀ (v93 : IVec S16 32) (k0_hw4 : k0_chk4 v93), ∀ a x, ((![v93] : Fin 1 → IVec S16 32) a x).toNat < S512.size a := fun v93 k0_hw4 => k0_hw4
def k0_off8 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_62 : BitVec 32 := 0#32
  let c0_i32_63 : BitVec 32 := 0#32
  ![arg14.toNat, 0, 0]
def k0_off9 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v97 : Index := Scalar.indexCast v90
  let c0 : Index := 0#32
  ![v97.toNat, 0]
def k0_off10 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v101 : Index := Scalar.indexCast v90
  let c16 : Index := 16#32
  ![v101.toNat, 16]
def k0_off11 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v105 : Index := Scalar.indexCast v90
  let c32 : Index := 32#32
  ![v105.toNat, 32]
def k0_off12 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v109 : Index := Scalar.indexCast v90
  let c48 : Index := 48#32
  ![v109.toNat, 48]
def k0_off13 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v113 : Index := Scalar.indexCast v90
  let c64 : Index := 64#32
  ![v113.toNat, 64]
def k0_off14 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v117 : Index := Scalar.indexCast v90
  let c80 : Index := 80#32
  ![v117.toNat, 80]
def k0_off15 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v121 : Index := Scalar.indexCast v90
  let c96 : Index := 96#32
  ![v121.toNat, 96]
def k0_off16 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32 : BitVec 32 := 8#32
  let v89 : BitVec 32 := Scalar.muli arg31 c8_i32
  let c0_i32_60 : BitVec 32 := 0#32
  let v90 : BitVec 32 := Scalar.addi v89 c0_i32_60
  let v125 : Index := Scalar.indexCast v90
  let c112 : Index := 112#32
  ![v125.toNat, 112]

def k0_chk5 (v219 : IVec S16 32) : Prop :=
  (∀ a x, ((![v219] : Fin 1 → IVec S16 32) a x).toNat < S512.size a)
theorem k0_idx5_inb : ∀ (v219 : IVec S16 32) (k0_hw5 : k0_chk5 v219), ∀ a x, ((![v219] : Fin 1 → IVec S16 32) a x).toNat < S512.size a := fun v219 k0_hw5 => k0_hw5
def k0_off17 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_113 : BitVec 32 := 0#32
  let c0_i32_114 : BitVec 32 := 0#32
  ![arg14.toNat, 0, 0]
def k0_off18 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v223 : Index := Scalar.indexCast v216
  let c0_115 : Index := 0#32
  ![v223.toNat, 0]
def k0_off19 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v227 : Index := Scalar.indexCast v216
  let c16_118 : Index := 16#32
  ![v227.toNat, 16]
def k0_off20 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v231 : Index := Scalar.indexCast v216
  let c32_121 : Index := 32#32
  ![v231.toNat, 32]
def k0_off21 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v235 : Index := Scalar.indexCast v216
  let c48_124 : Index := 48#32
  ![v235.toNat, 48]
def k0_off22 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v239 : Index := Scalar.indexCast v216
  let c64_127 : Index := 64#32
  ![v239.toNat, 64]
def k0_off23 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v243 : Index := Scalar.indexCast v216
  let c80_130 : Index := 80#32
  ![v243.toNat, 80]
def k0_off24 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v247 : Index := Scalar.indexCast v216
  let c96_133 : Index := 96#32
  ![v247.toNat, 96]
def k0_off25 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_110 : BitVec 32 := 8#32
  let v215 : BitVec 32 := Scalar.muli arg31 c8_i32_110
  let c1_i32_111 : BitVec 32 := 1#32
  let v216 : BitVec 32 := Scalar.addi v215 c1_i32_111
  let v251 : Index := Scalar.indexCast v216
  let c112_136 : Index := 112#32
  ![v251.toNat, 112]

def k0_chk6 (v345 : IVec S16 32) : Prop :=
  (∀ a x, ((![v345] : Fin 1 → IVec S16 32) a x).toNat < S512.size a)
theorem k0_idx6_inb : ∀ (v345 : IVec S16 32) (k0_hw6 : k0_chk6 v345), ∀ a x, ((![v345] : Fin 1 → IVec S16 32) a x).toNat < S512.size a := fun v345 k0_hw6 => k0_hw6
def k0_off26 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_172 : BitVec 32 := 0#32
  let c0_i32_173 : BitVec 32 := 0#32
  ![arg14.toNat, 0, 0]
def k0_off27 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v349 : Index := Scalar.indexCast v342
  let c0_174 : Index := 0#32
  ![v349.toNat, 0]
def k0_off28 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v353 : Index := Scalar.indexCast v342
  let c16_177 : Index := 16#32
  ![v353.toNat, 16]
def k0_off29 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v357 : Index := Scalar.indexCast v342
  let c32_180 : Index := 32#32
  ![v357.toNat, 32]
def k0_off30 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v361 : Index := Scalar.indexCast v342
  let c48_183 : Index := 48#32
  ![v361.toNat, 48]
def k0_off31 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v365 : Index := Scalar.indexCast v342
  let c64_186 : Index := 64#32
  ![v365.toNat, 64]
def k0_off32 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v369 : Index := Scalar.indexCast v342
  let c80_189 : Index := 80#32
  ![v369.toNat, 80]
def k0_off33 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v373 : Index := Scalar.indexCast v342
  let c96_192 : Index := 96#32
  ![v373.toNat, 96]
def k0_off34 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_169 : BitVec 32 := 8#32
  let v341 : BitVec 32 := Scalar.muli arg31 c8_i32_169
  let c2_i32_170 : BitVec 32 := 2#32
  let v342 : BitVec 32 := Scalar.addi v341 c2_i32_170
  let v377 : Index := Scalar.indexCast v342
  let c112_195 : Index := 112#32
  ![v377.toNat, 112]

def k0_chk7 (v471 : IVec S16 32) : Prop :=
  (∀ a x, ((![v471] : Fin 1 → IVec S16 32) a x).toNat < S512.size a)
theorem k0_idx7_inb : ∀ (v471 : IVec S16 32) (k0_hw7 : k0_chk7 v471), ∀ a x, ((![v471] : Fin 1 → IVec S16 32) a x).toNat < S512.size a := fun v471 k0_hw7 => k0_hw7
def k0_off35 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_230 : BitVec 32 := 0#32
  let c0_i32_231 : BitVec 32 := 0#32
  ![arg14.toNat, 0, 0]
def k0_off36 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v475 : Index := Scalar.indexCast v468
  let c0_232 : Index := 0#32
  ![v475.toNat, 0]
def k0_off37 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v479 : Index := Scalar.indexCast v468
  let c16_235 : Index := 16#32
  ![v479.toNat, 16]
def k0_off38 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v483 : Index := Scalar.indexCast v468
  let c32_238 : Index := 32#32
  ![v483.toNat, 32]
def k0_off39 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v487 : Index := Scalar.indexCast v468
  let c48_241 : Index := 48#32
  ![v487.toNat, 48]
def k0_off40 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v491 : Index := Scalar.indexCast v468
  let c64_244 : Index := 64#32
  ![v491.toNat, 64]
def k0_off41 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v495 : Index := Scalar.indexCast v468
  let c80_247 : Index := 80#32
  ![v495.toNat, 80]
def k0_off42 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v499 : Index := Scalar.indexCast v468
  let c96_250 : Index := 96#32
  ![v499.toNat, 96]
def k0_off43 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_228 : BitVec 32 := 8#32
  let v467 : BitVec 32 := Scalar.muli arg31 c8_i32_228
  let c3_i32 : BitVec 32 := 3#32
  let v468 : BitVec 32 := Scalar.addi v467 c3_i32
  let v503 : Index := Scalar.indexCast v468
  let c112_253 : Index := 112#32
  ![v503.toNat, 112]

def k0_chk8 (v597 : IVec S16 32) : Prop :=
  (∀ a x, ((![v597] : Fin 1 → IVec S16 32) a x).toNat < S512.size a)
theorem k0_idx8_inb : ∀ (v597 : IVec S16 32) (k0_hw8 : k0_chk8 v597), ∀ a x, ((![v597] : Fin 1 → IVec S16 32) a x).toNat < S512.size a := fun v597 k0_hw8 => k0_hw8
def k0_off44 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_289 : BitVec 32 := 0#32
  let c0_i32_290 : BitVec 32 := 0#32
  ![arg14.toNat, 0, 0]
def k0_off45 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v601 : Index := Scalar.indexCast v594
  let c0_291 : Index := 0#32
  ![v601.toNat, 0]
def k0_off46 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v605 : Index := Scalar.indexCast v594
  let c16_294 : Index := 16#32
  ![v605.toNat, 16]
def k0_off47 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v609 : Index := Scalar.indexCast v594
  let c32_297 : Index := 32#32
  ![v609.toNat, 32]
def k0_off48 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v613 : Index := Scalar.indexCast v594
  let c48_300 : Index := 48#32
  ![v613.toNat, 48]
def k0_off49 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v617 : Index := Scalar.indexCast v594
  let c64_303 : Index := 64#32
  ![v617.toNat, 64]
def k0_off50 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v621 : Index := Scalar.indexCast v594
  let c80_306 : Index := 80#32
  ![v621.toNat, 80]
def k0_off51 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v625 : Index := Scalar.indexCast v594
  let c96_309 : Index := 96#32
  ![v625.toNat, 96]
def k0_off52 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_286 : BitVec 32 := 8#32
  let v593 : BitVec 32 := Scalar.muli arg31 c8_i32_286
  let c4_i32_287 : BitVec 32 := 4#32
  let v594 : BitVec 32 := Scalar.addi v593 c4_i32_287
  let v629 : Index := Scalar.indexCast v594
  let c112_312 : Index := 112#32
  ![v629.toNat, 112]

def k0_chk9 (v723 : IVec S16 32) : Prop :=
  (∀ a x, ((![v723] : Fin 1 → IVec S16 32) a x).toNat < S512.size a)
theorem k0_idx9_inb : ∀ (v723 : IVec S16 32) (k0_hw9 : k0_chk9 v723), ∀ a x, ((![v723] : Fin 1 → IVec S16 32) a x).toNat < S512.size a := fun v723 k0_hw9 => k0_hw9
def k0_off53 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_347 : BitVec 32 := 0#32
  let c0_i32_348 : BitVec 32 := 0#32
  ![arg14.toNat, 0, 0]
def k0_off54 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v727 : Index := Scalar.indexCast v720
  let c0_349 : Index := 0#32
  ![v727.toNat, 0]
def k0_off55 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v731 : Index := Scalar.indexCast v720
  let c16_352 : Index := 16#32
  ![v731.toNat, 16]
def k0_off56 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v735 : Index := Scalar.indexCast v720
  let c32_355 : Index := 32#32
  ![v735.toNat, 32]
def k0_off57 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v739 : Index := Scalar.indexCast v720
  let c48_358 : Index := 48#32
  ![v739.toNat, 48]
def k0_off58 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v743 : Index := Scalar.indexCast v720
  let c64_361 : Index := 64#32
  ![v743.toNat, 64]
def k0_off59 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v747 : Index := Scalar.indexCast v720
  let c80_364 : Index := 80#32
  ![v747.toNat, 80]
def k0_off60 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v751 : Index := Scalar.indexCast v720
  let c96_367 : Index := 96#32
  ![v751.toNat, 96]
def k0_off61 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_345 : BitVec 32 := 8#32
  let v719 : BitVec 32 := Scalar.muli arg31 c8_i32_345
  let c5_i32 : BitVec 32 := 5#32
  let v720 : BitVec 32 := Scalar.addi v719 c5_i32
  let v755 : Index := Scalar.indexCast v720
  let c112_370 : Index := 112#32
  ![v755.toNat, 112]

def k0_chk10 (v849 : IVec S16 32) : Prop :=
  (∀ a x, ((![v849] : Fin 1 → IVec S16 32) a x).toNat < S512.size a)
theorem k0_idx10_inb : ∀ (v849 : IVec S16 32) (k0_hw10 : k0_chk10 v849), ∀ a x, ((![v849] : Fin 1 → IVec S16 32) a x).toNat < S512.size a := fun v849 k0_hw10 => k0_hw10
def k0_off62 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_405 : BitVec 32 := 0#32
  let c0_i32_406 : BitVec 32 := 0#32
  ![arg14.toNat, 0, 0]
def k0_off63 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v853 : Index := Scalar.indexCast v846
  let c0_407 : Index := 0#32
  ![v853.toNat, 0]
def k0_off64 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v857 : Index := Scalar.indexCast v846
  let c16_410 : Index := 16#32
  ![v857.toNat, 16]
def k0_off65 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v861 : Index := Scalar.indexCast v846
  let c32_413 : Index := 32#32
  ![v861.toNat, 32]
def k0_off66 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v865 : Index := Scalar.indexCast v846
  let c48_416 : Index := 48#32
  ![v865.toNat, 48]
def k0_off67 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v869 : Index := Scalar.indexCast v846
  let c64_419 : Index := 64#32
  ![v869.toNat, 64]
def k0_off68 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v873 : Index := Scalar.indexCast v846
  let c80_422 : Index := 80#32
  ![v873.toNat, 80]
def k0_off69 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v877 : Index := Scalar.indexCast v846
  let c96_425 : Index := 96#32
  ![v877.toNat, 96]
def k0_off70 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_403 : BitVec 32 := 8#32
  let v845 : BitVec 32 := Scalar.muli arg31 c8_i32_403
  let c6_i32 : BitVec 32 := 6#32
  let v846 : BitVec 32 := Scalar.addi v845 c6_i32
  let v881 : Index := Scalar.indexCast v846
  let c112_428 : Index := 112#32
  ![v881.toNat, 112]

def k0_chk11 (v975 : IVec S16 32) : Prop :=
  (∀ a x, ((![v975] : Fin 1 → IVec S16 32) a x).toNat < S512.size a)
theorem k0_idx11_inb : ∀ (v975 : IVec S16 32) (k0_hw11 : k0_chk11 v975), ∀ a x, ((![v975] : Fin 1 → IVec S16 32) a x).toNat < S512.size a := fun v975 k0_hw11 => k0_hw11
def k0_off71 (k0_t2 : Fin k0_t2_loop.trips) : Fin 3 → Nat :=
  let c0_i32_30 : BitVec 32 := 0#32
  let c1_i32_32 : BitVec 32 := 1#32
  let arg14 : BitVec 32 := Scf.iv c0_i32_30 c1_i32_32 k0_t2
  let c0_i32_463 : BitVec 32 := 0#32
  let c0_i32_464 : BitVec 32 := 0#32
  ![arg14.toNat, 0, 0]
def k0_off72 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v979 : Index := Scalar.indexCast v972
  let c0_465 : Index := 0#32
  ![v979.toNat, 0]
def k0_off73 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v983 : Index := Scalar.indexCast v972
  let c16_468 : Index := 16#32
  ![v983.toNat, 16]
def k0_off74 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v987 : Index := Scalar.indexCast v972
  let c32_471 : Index := 32#32
  ![v987.toNat, 32]
def k0_off75 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v991 : Index := Scalar.indexCast v972
  let c48_474 : Index := 48#32
  ![v991.toNat, 48]
def k0_off76 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v995 : Index := Scalar.indexCast v972
  let c64_477 : Index := 64#32
  ![v995.toNat, 64]
def k0_off77 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v999 : Index := Scalar.indexCast v972
  let c80_480 : Index := 80#32
  ![v999.toNat, 80]
def k0_off78 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v1003 : Index := Scalar.indexCast v972
  let c96_483 : Index := 96#32
  ![v1003.toNat, 96]
def k0_off79 (k0_t3 : Fin k0_t3_loop.trips) : Fin 2 → Nat :=
  let c0_i32_52 : BitVec 32 := 0#32
  let c1_i32_54 : BitVec 32 := 1#32
  let arg31 : BitVec 32 := Scf.iv c0_i32_52 c1_i32_54 k0_t3
  let c8_i32_461 : BitVec 32 := 8#32
  let v971 : BitVec 32 := Scalar.muli arg31 c8_i32_461
  let c7_i32 : BitVec 32 := 7#32
  let v972 : BitVec 32 := Scalar.addi v971 c7_i32
  let v1007 : Index := Scalar.indexCast v972
  let c112_486 : Index := 112#32
  ![v1007.toNat, 112]
def k0_cond3 (k0_t2 : Fin k0_t2_loop.trips) : BitVec 1 :=
  let c0_i32_30 : BitVec 32 := 0#32
  let c1_i32_32 : BitVec 32 := 1#32
  let arg14 : BitVec 32 := Scf.iv c0_i32_30 c1_i32_32 k0_t2
  let c0_i32_56 : BitVec 32 := 0#32
  let v83 : BitVec 1 := Scalar.cmpi .eq arg14 c0_i32_56
  let v84 : BitVec 32 := Scalar.extui v83
  let c0_i32_57 : BitVec 32 := 0#32
  let v85 : BitVec 1 := Scalar.cmpi .ne v84 c0_i32_57
  v85

def k0_off80 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_63 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
def k0_cond4 (k0_t2 : Fin k0_t2_loop.trips) : BitVec 1 :=
  let c0_i32_30 : BitVec 32 := 0#32
  let c1_i32_32 : BitVec 32 := 1#32
  let arg14 : BitVec 32 := Scf.iv c0_i32_30 c1_i32_32 k0_t2
  let c1_i32_58 : BitVec 32 := 1#32
  let v86 : BitVec 1 := Scalar.cmpi .eq arg14 c1_i32_58
  let v87 : BitVec 32 := Scalar.extui v86
  let c0_i32_59 : BitVec 32 := 0#32
  let v88 : BitVec 1 := Scalar.cmpi .ne v87 c0_i32_59
  v88

def k0_off81 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c256_i32_63 : BitVec 32 := 256#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 256, v29.toNat]
def k0_off82 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_37 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
def k0_off83 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c256_i32_44 : BitVec 32 := 256#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 256, v29.toNat]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512x768 : Shape := ⟨3, ![8, 512, 768]⟩
abbrev S8x512 : Shape := ⟨2, ![8, 512]⟩
abbrev S_ : Shape := ⟨0, ![]⟩
abbrev S8x512x1 : Shape := ⟨3, ![8, 512, 1]⟩
abbrev S8x1x512 : Shape := ⟨3, ![8, 1, 512]⟩
abbrev S8x512x512 : Shape := ⟨3, ![8, 512, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x512, .f32⟩
  | .hbm, ⟨2, _⟩ => ⟨S_, .f32⟩
  | .hbm, ⟨3, _⟩ => ⟨S_, .f32⟩
  | .hbm, ⟨4, _⟩ => ⟨S8x512x1, .f32⟩
  | .hbm, ⟨5, _⟩ => ⟨S8x1x512, .f32⟩
  | .hbm, ⟨6, _⟩ => ⟨S8x512x512, .f32⟩
  | .hbm, ⟨7, _⟩ => ⟨S8x512x512, .f32⟩
  | .hbm, ⟨8, _⟩ => ⟨S8x512x512, .f32⟩
  | .hbm, ⟨9, _⟩ => ⟨S_, .f32⟩
  | .hbm, ⟨10, _⟩ => ⟨S8x512x512, .f32⟩
  | .hbm, ⟨11, _⟩ => ⟨S8x512x512, .i1⟩
  | .hbm, ⟨12, _⟩ => ⟨S8x512x512, .f32⟩
  | .hbm, ⟨13, _⟩ => ⟨S8x512x512, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S8x512x512, .f32⟩
  | .hbm, ⟨18, _⟩ => ⟨S8x512x512, .f32⟩
  | .hbm, ⟨19, _⟩ => ⟨S_, .f32⟩
  | .hbm, ⟨20, _⟩ => ⟨S8x512x768, .f32⟩
  | .hbm, ⟨21, _⟩ => ⟨S8x512x768, .f32⟩
  | .hbm, ⟨22, _⟩ => ⟨S8x512x768, .f32⟩
  | .hbm, ⟨23, _⟩ => ⟨S8x512x768, .f32⟩
  | .hbm, ⟨24, _⟩ => ⟨S8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Row.lean ====
/-
  One row of the SparseCore kernel's inner loop as a program of its own: the gather of the row's decay, the eight
  sixteen-lane loads of the row and the eight stores of the two running sums' total; and the trip of the inner loop as
  eight such rows.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KIdeal

open Cert.KernelIdeal Cert.KernelIdeal.Gen
open Idealize.ShloMosaic Idealize.SL.Sem

variable {F : FTy → Type} [FloatOps F]

/-- Sixteen lanes of floats. -/
abbrev V16 (F : FTy → Type) : Type := FVec F S16 .f32

/-- Eight chunks of sixteen lanes: one row of a panel, or one running sum over it. -/
abbrev Row (F : FTy → Type) : Type := Fin 8 → V16 F

/-- The first running sum after a row: the sum so far plus the row. -/
def nextA (h a : V16 F) : V16 F := addf a h
/-- The second running sum after a row: decayed by the row's factor, plus the scaled positive part of the row. -/
def nextB (e r h b : V16 F) : V16 F := addf (mulf r b) (mulf e (maximumf h (broadcast S16 (Scalar.ofBits .f32 0x00000000#32 : F .f32))))
/-- What the row stores. -/
def outRow (e r h a b : V16 F) : V16 F := addf (nextA h a) (nextB e r h b)

/-- The lanes gathered from a vector of 512 at sixteen indices. -/
def gath (f : Vec F S512 .f32) (w : IVec S16 32) (h : ∀ a x, ((![w] : Fin 1 → IVec S16 32) a x).toNat < S512.size a) : V16 F :=
  (loadIdx f ![w] h : Vec F S16 .f32)

/-- A chunk of a row of a panel, as a rectangle. -/
abbrev chunk (o : Fin 2 → ℕ) (ho : ∀ a, o a + S1x16.size a ≤ S256x128.size a) : Rect S256x128 :=
  Rect.unit (s := S256x128) o S1x16.size ho

/-- The row's program. -/
def rowProg {α : Type} (i : grid0.Coords) (arg8 : Memref sig .scVector .vmem S512 .f32) (m : Memref sig .scVector .vmem S256x128 .f32)
    (o : Fin 8 → Fin 2 → ℕ) (ho : ∀ c a, o c a + S1x16.size a ≤ S256x128.size a) (e : V16 F) (w : IVec S16 32)
    (P : Prop) (dP : Decidable P) (hP : P → ∀ a x, ((![w] : Fin 1 → IVec S16 32) a x).toNat < S512.size a) (a b : Row F)
    (k : Row F × Row F → Prog (TpuEff nD τ sig (Elt F) Λ₀ (.scVector ((i 0).castLE hcore0) ((i 1).castLE hsub0))) α) :
    Prog (TpuEff nD τ sig (Elt F) Λ₀ (.scVector ((i 0).castLE hcore0) ((i 1).castLE hsub0))) α :=
  .op (TpuEff.assume P dP) fun hw =>
  .op (.load arg8 (.whole S512) (View.loadsAt_whole (View.loads_vmem h_S512))) fun f =>
  .op (.load m (chunk (o 0) (ho 0)).toLoadRect (View.loadsAt_vmem h_S1x16)) fun h0 =>
  .op (.load m (chunk (o 1) (ho 1)).toLoadRect (View.loadsAt_vmem h_S1x16)) fun h1 =>
  .op (.load m (chunk (o 2) (ho 2)).toLoadRect (View.loadsAt_vmem h_S1x16)) fun h2 =>
  .op (.load m (chunk (o 3) (ho 3)).toLoadRect (View.loadsAt_vmem h_S1x16)) fun h3 =>
  .op (.load m (chunk (o 4) (ho 4)).toLoadRect (View.loadsAt_vmem h_S1x16)) fun h4 =>
  .op (.load m (chunk (o 5) (ho 5)).toLoadRect (View.loadsAt_vmem h_S1x16)) fun h5 =>
  .op (.load m (chunk (o 6) (ho 6)).toLoadRect (View.loadsAt_vmem h_S1x16)) fun h6 =>
  .op (.load m (chunk (o 7) (ho 7)).toLoadRect (View.loadsAt_vmem h_S1x16)) fun h7 =>
  .op (.load m (chunk (o 0) (ho 0)).toLoadRect (View.loadsAt_vmem h_S1x16)) fun _ =>
  .op (.store m (chunk (o 0) (ho 0)) (shapeCast S1x16 (outRow e (gath f w (hP hw.down)) (shapeCast S16 h0 shapeCasts_S1x16_S16) (a 0) (b 0)) shapeCasts_S16_S1x16) Finset.univ (View.stores_vmem_bits_univ h_S1x16 rfl) (.inl rfl)) fun _ =>
  .op (.load m (chunk (o 1) (ho 1)).toLoadRect (View.loadsAt_vmem h_S1x16)) fun _ =>
  .op (.store m (chunk (o 1) (ho 1)) (shapeCast S1x16 (outRow e (gath f w (hP hw.down)) (shapeCast S16 h1 shapeCasts_S1x16_S16) (a 1) (b 1)) shapeCasts_S16_S1x16) Finset.univ (View.stores_vmem_bits_univ h_S1x16 rfl) (.inl rfl)) fun _ =>
  .op (.load m (chunk (o 2) (ho 2)).toLoadRect (View.loadsAt_vmem h_S1x16)) fun _ =>
  .op (.store m (chunk (o 2) (ho 2)) (shapeCast S1x16 (outRow e (gath f w (hP hw.down)) (shapeCast S16 h2 shapeCasts_S1x16_S16) (a 2) (b 2)) shapeCasts_S16_S1x16) Finset.univ (View.stores_vmem_bits_univ h_S1x16 rfl) (.inl rfl)) fun _ =>
  .op (.load m (chunk (o 3) (ho 3)).toLoadRect (View.loadsAt_vmem h_S1x16)) fun _ =>
  .op (.store m (chunk (o 3) (ho 3)) (shapeCast S1x16 (outRow e (gath f w (hP hw.down)) (shapeCast S16 h3 shapeCasts_S1x16_S16) (a 3) (b 3)) shapeCasts_S16_S1x16) Finset.univ (View.stores_vmem_bits_univ h_S1x16 rfl) (.inl rfl)) fun _ =>
  .op (.load m (chunk (o 4) (ho 4)).toLoadRect (View.loadsAt_vmem h_S1x16)) fun _ =>
  .op (.store m (chunk (o 4) (ho 4)) (shapeCast S1x16 (outRow e (gath f w (hP hw.down)) (shapeCast S16 h4 shapeCasts_S1x16_S16) (a 4) (b 4)) shapeCasts_S16_S1x16) Finset.univ (View.stores_vmem_bits_univ h_S1x16 rfl) (.inl rfl)) fun _ =>
  .op (.load m (chunk (o 5) (ho 5)).toLoadRect (View.loadsAt_vmem h_S1x16)) fun _ =>
  .op (.store m (chunk (o 5) (ho 5)) (shapeCast S1x16 (outRow e (gath f w (hP hw.down)) (shapeCast S16 h5 shapeCasts_S1x16_S16) (a 5) (b 5)) shapeCasts_S16_S1x16) Finset.univ (View.stores_vmem_bits_univ h_S1x16 rfl) (.inl rfl)) fun _ =>
  .op (.load m (chunk (o 6) (ho 6)).toLoadRect (View.loadsAt_vmem h_S1x16)) fun _ =>
  .op (.store m (chunk (o 6) (ho 6)) (shapeCast S1x16 (outRow e (gath f w (hP hw.down)) (shapeCast S16 h6 shapeCasts_S1x16_S16) (a 6) (b 6)) shapeCasts_S16_S1x16) Finset.univ (View.stores_vmem_bits_univ h_S1x16 rfl) (.inl rfl)) fun _ =>
  .op (.load m (chunk (o 7) (ho 7)).toLoadRect (View.loadsAt_vmem h_S1x16)) fun _ =>
  .op (.store m (chunk (o 7) (ho 7)) (shapeCast S1x16 (outRow e (gath f w (hP hw.down)) (shapeCast S16 h7 shapeCasts_S1x16_S16) (a 7) (b 7)) shapeCasts_S16_S1x16) Finset.univ (View.stores_vmem_bits_univ h_S1x16 rfl) (.inl rfl)) fun _ =>
  k (![nextA (shapeCast S16 h0 shapeCasts_S1x16_S16) (a 0), nextA (shapeCast S16 h1 shapeCasts_S1x16_S16) (a 1), nextA (shapeCast S16 h2 shapeCasts_S1x16_S16) (a 2), nextA (shapeCast S16 h3 shapeCasts_S1x16_S16) (a 3), nextA (shapeCast S16 h4 shapeCasts_S1x16_S16) (a 4), nextA (shapeCast S16 h5 shapeCasts_S1x16_S16) (a 5), nextA (shapeCast S16 h6 shapeCasts_S1x16_S16) (a 6), nextA (shapeCast S16 h7 shapeCasts_S1x16_S16) (a 7)],
    ![nextB e (gath f w (hP hw.down)) (shapeCast S16 h0 shapeCasts_S1x16_S16) (b 0), nextB e (gath f w (hP hw.down)) (shapeCast S16 h1 shapeCasts_S1x16_S16) (b 1), nextB e (gath f w (hP hw.down)) (shapeCast S16 h2 shapeCasts_S1x16_S16) (b 2), nextB e (gath f w (hP hw.down)) (shapeCast S16 h3 shapeCasts_S1x16_S16) (b 3), nextB e (gath f w (hP hw.down)) (shapeCast S16 h4 shapeCasts_S1x16_S16) (b 4), nextB e (gath f w (hP hw.down)) (shapeCast S16 h5 shapeCasts_S1x16_S16) (b 5), nextB e (gath f w (hP hw.down)) (shapeCast S16 h6 shapeCasts_S1x16_S16) (b 6), nextB e (gath f w (hP hw.down)) (shapeCast S16 h7 shapeCasts_S1x16_S16) (b 7)])

/-- The carry of the loops: the eight chunks of the two running sums, interleaved. -/
abbrev Carry (F : FTy → Type) : Type := V16 F × V16 F × V16 F × V16 F × V16 F × V16 F × V16 F × V16 F × V16 F × V16 F × V16 F × V16 F × V16 F × V16 F × V16 F × V16 F

/-- The carry from the two running sums. -/
def pack (p : Row F × Row F) : Carry F := (p.1 0, p.2 0, p.1 1, p.2 1, p.1 2, p.2 2, p.1 3, p.2 3, p.1 4, p.2 4, p.1 5, p.2 5, p.1 6, p.2 6, p.1 7, p.2 7)

/-- Half `k` of the staging buffer. -/
abbrev half (arg9 : Memref sig .scVector .vmem S2x256x128 .f32) (o : Fin 3 → ℕ) (ho : ∀ a, o a + S1x256x128.size a ≤ S2x256x128.size a) :
    Memref sig .scVector .vmem S256x128 .f32 :=
  (arg9.slice (Rect.unit (s := S2x256x128) o S1x256x128.size ho) (fun _ => rfl)).squeeze S256x128 squeezes_S1x256x128_S256x128

/-- The lanes' index of row `u` of trip `t3` of half `t2`: the row's number, in every lane. -/
def rowWord (k2 : BitVec 32) (k0_t3 : Fin k0_t3_loop.trips) (u : BitVec 32) : IVec S16 32 :=
  broadcast S16 (Scalar.addi (Scalar.muli k2 256#32) (Scalar.addi (Scalar.muli (Scf.iv 0#32 1#32 k0_t3) 8#32) u))

/-- The chunks of row 0 of a trip. -/
def offs0 (k0_t3 : Fin k0_t3_loop.trips) : Fin 8 → Fin 2 → ℕ := ![k0_off9 k0_t3, k0_off10 k0_t3, k0_off11 k0_t3, k0_off12 k0_t3, k0_off13 k0_t3, k0_off14 k0_t3, k0_off15 k0_t3, k0_off16 k0_t3]
theorem offs0_inb (k0_t3 : Fin k0_t3_loop.trips) : ∀ c a, offs0 k0_t3 c a + S1x16.size a ≤ S256x128.size a
  | 0 => k0_off9_inb k0_t3
  | 1 => k0_off10_inb k0_t3
  | 2 => k0_off11_inb k0_t3
  | 3 => k0_off12_inb k0_t3
  | 4 => k0_off13_inb k0_t3
  | 5 => k0_off14_inb k0_t3
  | 6 => k0_off15_inb k0_t3
  | 7 => k0_off16_inb k0_t3
/-- The chunks of row 1 of a trip. -/
def offs1 (k0_t3 : Fin k0_t3_loop.trips) : Fin 8 → Fin 2 → ℕ := ![k0_off18 k0_t3, k0_off19 k0_t3, k0_off20 k0_t3, k0_off21 k0_t3, k0_off22 k0_t3, k0_off23 k0_t3, k0_off24 k0_t3, k0_off25 k0_t3]
theorem offs1_inb (k0_t3 : Fin k0_t3_loop.trips) : ∀ c a, offs1 k0_t3 c a + S1x16.size a ≤ S256x128.size a
  | 0 => k0_off18_inb k0_t3
  | 1 => k0_off19_inb k0_t3
  | 2 => k0_off20_inb k0_t3
  | 3 => k0_off21_inb k0_t3
  | 4 => k0_off22_inb k0_t3
  | 5 => k0_off23_inb k0_t3
  | 6 => k0_off24_inb k0_t3
  | 7 => k0_off25_inb k0_t3
/-- The chunks of row 2 of a trip. -/
def offs2 (k0_t3 : Fin k0_t3_loop.trips) : Fin 8 → Fin 2 → ℕ := ![k0_off27 k0_t3, k0_off28 k0_t3, k0_off29 k0_t3, k0_off30 k0_t3, k0_off31 k0_t3, k0_off32 k0_t3, k0_off33 k0_t3, k0_off34 k0_t3]
theorem offs2_inb (k0_t3 : Fin k0_t3_loop.trips) : ∀ c a, offs2 k0_t3 c a + S1x16.size a ≤ S256x128.size a
  | 0 => k0_off27_inb k0_t3
  | 1 => k0_off28_inb k0_t3
  | 2 => k0_off29_inb k0_t3
  | 3 => k0_off30_inb k0_t3
  | 4 => k0_off31_inb k0_t3
  | 5 => k0_off32_inb k0_t3
  | 6 => k0_off33_inb k0_t3
  | 7 => k0_off34_inb k0_t3
/-- The chunks of row 3 of a trip. -/
def offs3 (k0_t3 : Fin k0_t3_loop.trips) : Fin 8 → Fin 2 → ℕ := ![k0_off36 k0_t3, k0_off37 k0_t3, k0_off38 k0_t3, k0_off39 k0_t3, k0_off40 k0_t3, k0_off41 k0_t3, k0_off42 k0_t3, k0_off43 k0_t3]
theorem offs3_inb (k0_t3 : Fin k0_t3_loop.trips) : ∀ c a, offs3 k0_t3 c a + S1x16.size a ≤ S256x128.size a
  | 0 => k0_off36_inb k0_t3
  | 1 => k0_off37_inb k0_t3
  | 2 => k0_off38_inb k0_t3
  | 3 => k0_off39_inb k0_t3
  | 4 => k0_off40_inb k0_t3
  | 5 => k0_off41_inb k0_t3
  | 6 => k0_off42_inb k0_t3
  | 7 => k0_off43_inb k0_t3
/-- The chunks of row 4 of a trip. -/
def offs4 (k0_t3 : Fin k0_t3_loop.trips) : Fin 8 → Fin 2 → ℕ := ![k0_off45 k0_t3, k0_off46 k0_t3, k0_off47 k0_t3, k0_off48 k0_t3, k0_off49 k0_t3, k0_off50 k0_t3, k0_off51 k0_t3, k0_off52 k0_t3]
theorem offs4_inb (k0_t3 : Fin k0_t3_loop.trips) : ∀ c a, offs4 k0_t3 c a + S1x16.size a ≤ S256x128.size a
  | 0 => k0_off45_inb k0_t3
  | 1 => k0_off46_inb k0_t3
  | 2 => k0_off47_inb k0_t3
  | 3 => k0_off48_inb k0_t3
  | 4 => k0_off49_inb k0_t3
  | 5 => k0_off50_inb k0_t3
  | 6 => k0_off51_inb k0_t3
  | 7 => k0_off52_inb k0_t3
/-- The chunks of row 5 of a trip. -/
def offs5 (k0_t3 : Fin k0_t3_loop.trips) : Fin 8 → Fin 2 → ℕ := ![k0_off54 k0_t3, k0_off55 k0_t3, k0_off56 k0_t3, k0_off57 k0_t3, k0_off58 k0_t3, k0_off59 k0_t3, k0_off60 k0_t3, k0_off61 k0_t3]
theorem offs5_inb (k0_t3 : Fin k0_t3_loop.trips) : ∀ c a, offs5 k0_t3 c a + S1x16.size a ≤ S256x128.size a
  | 0 => k0_off54_inb k0_t3
  | 1 => k0_off55_inb k0_t3
  | 2 => k0_off56_inb k0_t3
  | 3 => k0_off57_inb k0_t3
  | 4 => k0_off58_inb k0_t3
  | 5 => k0_off59_inb k0_t3
  | 6 => k0_off60_inb k0_t3
  | 7 => k0_off61_inb k0_t3
/-- The chunks of row 6 of a trip. -/
def offs6 (k0_t3 : Fin k0_t3_loop.trips) : Fin 8 → Fin 2 → ℕ := ![k0_off63 k0_t3, k0_off64 k0_t3, k0_off65 k0_t3, k0_off66 k0_t3, k0_off67 k0_t3, k0_off68 k0_t3, k0_off69 k0_t3, k0_off70 k0_t3]
theorem offs6_inb (k0_t3 : Fin k0_t3_loop.trips) : ∀ c a, offs6 k0_t3 c a + S1x16.size a ≤ S256x128.size a
  | 0 => k0_off63_inb k0_t3
  | 1 => k0_off64_inb k0_t3
  | 2 => k0_off65_inb k0_t3
  | 3 => k0_off66_inb k0_t3
  | 4 => k0_off67_inb k0_t3
  | 5 => k0_off68_inb k0_t3
  | 6 => k0_off69_inb k0_t3
  | 7 => k0_off70_inb k0_t3
/-- The chunks of row 7 of a trip. -/
def offs7 (k0_t3 : Fin k0_t3_loop.trips) : Fin 8 → Fin 2 → ℕ := ![k0_off72 k0_t3, k0_off73 k0_t3, k0_off74 k0_t3, k0_off75 k0_t3, k0_off76 k0_t3, k0_off77 k0_t3, k0_off78 k0_t3, k0_off79 k0_t3]
theorem offs7_inb (k0_t3 : Fin k0_t3_loop.trips) : ∀ c a, offs7 k0_t3 c a + S1x16.size a ≤ S256x128.size a
  | 0 => k0_off72_inb k0_t3
  | 1 => k0_off73_inb k0_t3
  | 2 => k0_off74_inb k0_t3
  | 3 => k0_off75_inb k0_t3
  | 4 => k0_off76_inb k0_t3
  | 5 => k0_off77_inb k0_t3
  | 6 => k0_off78_inb k0_t3
  | 7 => k0_off79_inb k0_t3

/-- The trip as eight rows. -/
def tripRows (i : grid0.Coords) (arg8 : Memref sig .scVector .vmem S512 .f32) (arg9 : Memref sig .scVector .vmem S2x256x128 .f32)
    (e : V16 F) (k0_t2 : Fin k0_t2_loop.trips) (k2 : BitVec 32) (k0_t3 : Fin k0_t3_loop.trips) (p0 : Row F × Row F) :
    Prog (TpuEff nD τ sig (Elt F) Λ₀ (.scVector ((i 0).castLE hcore0) ((i 1).castLE hsub0))) (Carry F) :=
  rowProg i arg8 (half arg9 (k0_off8 k0_t2) (k0_off8_inb k0_t2)) (offs0 k0_t3) (offs0_inb k0_t3) e (rowWord k2 k0_t3 0#32) (k0_chk4 (rowWord k2 k0_t3 0#32)) (k0_chk4.dec _) (k0_idx4_inb _) p0.1 p0.2 fun p1 =>
  rowProg i arg8 (half arg9 (k0_off17 k0_t2) (k0_off17_inb k0_t2)) (offs1 k0_t3) (offs1_inb k0_t3) e (rowWord k2 k0_t3 1#32) (k0_chk5 (rowWord k2 k0_t3 1#32)) (k0_chk5.dec _) (k0_idx5_inb _) p1.1 p1.2 fun p2 =>
  rowProg i arg8 (half arg9 (k0_off26 k0_t2) (k0_off26_inb k0_t2)) (offs2 k0_t3) (offs2_inb k0_t3) e (rowWord k2 k0_t3 2#32) (k0_chk6 (rowWord k2 k0_t3 2#32)) (k0_chk6.dec _) (k0_idx6_inb _) p2.1 p2.2 fun p3 =>
  rowProg i arg8 (half arg9 (k0_off35 k0_t2) (k0_off35_inb k0_t2)) (offs3 k0_t3) (offs3_inb k0_t3) e (rowWord k2 k0_t3 3#32) (k0_chk7 (rowWord k2 k0_t3 3#32)) (k0_chk7.dec _) (k0_idx7_inb _) p3.1 p3.2 fun p4 =>
  rowProg i arg8 (half arg9 (k0_off44 k0_t2) (k0_off44_inb k0_t2)) (offs4 k0_t3) (offs4_inb k0_t3) e (rowWord k2 k0_t3 4#32) (k0_chk8 (rowWord k2 k0_t3 4#32)) (k0_chk8.dec _) (k0_idx8_inb _) p4.1 p4.2 fun p5 =>
  rowProg i arg8 (half arg9 (k0_off53 k0_t2) (k0_off53_inb k0_t2)) (offs5 k0_t3) (offs5_inb k0_t3) e (rowWord k2 k0_t3 5#32) (k0_chk9 (rowWord k2 k0_t3 5#32)) (k0_chk9.dec _) (k0_idx9_inb _) p5.1 p5.2 fun p6 =>
  rowProg i arg8 (half arg9 (k0_off62 k0_t2) (k0_off62_inb k0_t2)) (offs6 k0_t3) (offs6_inb k0_t3) e (rowWord k2 k0_t3 6#32) (k0_chk10 (rowWord k2 k0_t3 6#32)) (k0_chk10.dec _) (k0_idx10_inb _) p6.1 p6.2 fun p7 =>
  rowProg i arg8 (half arg9 (k0_off71 k0_t2) (k0_off71_inb k0_t2)) (offs7 k0_t3) (offs7_inb k0_t3) e (rowWord k2 k0_t3 7#32) (k0_chk11 (rowWord k2 k0_t3 7#32)) (k0_chk11.dec _) (k0_idx11_inb _) p7.1 p7.2 fun p8 =>
  .ret (pack p8)

set_option maxRecDepth 65536 in
set_option maxHeartbeats 4000000 in
/-- The inner loop's trip is its eight rows. -/
theorem trip_eq (i : grid0.Coords) (arg2 : Memref sig .scVector .hbm S8x512x768 .f32) (harg2 : arg2.IsWhole) (arg3 : Memref sig .scVector .hbm S8x512 .f32) (harg3 : arg3.IsWhole) (arg4 : Memref sig .scVector .hbm S16 .f32) (harg4 : arg4.IsWhole)
    (arg5 : Memref sig .scVector .hbm S8x512x768 .f32) (harg5 : arg5.IsWhole) (arg6 : Memref sig .scVector .vmem S16 .f32) (harg6 : arg6.IsWhole) (arg7 : Memref sig .scVector .vmem S512 .f32) (harg7 : arg7.IsWhole)
    (arg8 : Memref sig .scVector .vmem S512 .f32) (harg8 : arg8.IsWhole) (arg9 : Memref sig .scVector .vmem S2x256x128 .f32) (harg9 : arg9.IsWhole)
    (arg10 arg11 arg12 arg13 v75_r0 v75_r1 : DmaSems sig S_)
    (e : V16 F) (k0_t2 : Fin k0_t2_loop.trips) (k2 : BitVec 32) (k0_t3 : Fin k0_t3_loop.trips) (p : Row F × Row F) :
    k0_t3_body i arg2 harg2 arg3 harg3 arg4 harg4 arg5 harg5 arg6 harg6 arg7 harg7 arg8 harg8 arg9 harg9 arg10 arg11 arg12 arg13 v75_r0 v75_r1 e k0_t2 k2 k0_t3 (pack p)
      = tripRows i arg8 arg9 e k0_t2 k2 k0_t3 p := rfl

end Cert.Proof.KIdeal
-- ==== Proof.RowWp.lean ====
/-
  What one row of the inner loop does: it reads one row of the panel and the row's decay, and writes over the row the total
  of the two running sums.
-/
module

public import proofs.«01_k».proof.Proof.Row
public import Idealize.ShloMosaic.Lib.Writes
public import Idealize.ShloMosaic.Lib.Pointwise
public import Idealize.ShloMosaic.Lib.Pipeline.Value

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The thread of the tile at grid point `i`. -/
abbrev tile (d : Dev nD) (i : grid0.Coords) : Thread nD τ := V d ((i 0).castLE hcore0) ((i 1).castLE hsub0)

/-- A panel of 256 rows and 128 columns. -/
abbrev Panel (F : FTy → Type) : Type := Vec F S256x128 .f32

theorem lane_lt (c : Fin 8) (x : S16.Idx) : 16 * c.val + (x 0).val < 128 := by
  have h : (x 0).val < 16 := (x 0).isLt
  omega

/-- Column `16 c + x` of the panel. -/
def lane (c : Fin 8) (x : S16.Idx) : Fin 128 := ⟨16 * c.val + (x 0).val, lane_lt c x⟩

/-- One row of a panel, by chunks. -/
def rowOf (G : Panel F) (R : Fin 256) : Row F := fun c x => G (ix2 R (lane c x))

/-- The entry of a row at one column. -/
def atCol (v : Row F) (y : Fin 128) : F .f32 :=
  v ⟨y.val / 16, by omega⟩ (ix1 ⟨y.val % 16, by omega⟩)

theorem atCol_lane (v : Row F) (c : Fin 8) (x : S16.Idx) : atCol v (lane c x) = v c x := by
  have hx : (x 0).val < 16 := (x 0).isLt
  unfold atCol lane
  have h1 : (16 * c.val + (x 0).val) / 16 = c.val := by omega
  have h2 : (16 * c.val + (x 0).val) % 16 = (x 0).val := by omega
  have e1 : (⟨(16 * c.val + (x 0).val) / 16, by omega⟩ : Fin 8) = c := Fin.ext h1
  have e2 : (ix1 ⟨(16 * c.val + (x 0).val) % 16, by omega⟩ : S16.Idx) = x := by
    funext a
    match a with
    | ⟨0, _⟩ => exact Fin.ext h2
  simp only [e1, e2]

/-- A panel with one row replaced. -/
def setRow (G : Panel F) (R : Fin 256) (v : Row F) : Panel F :=
  fun y => if (y 0).val = R.val then atCol v (y 1) else G y

theorem row_load {κ : Kind} {sp : Space} (v : View sig κ sp S256x128 .f32) (f : v.ty.Contents (Elt F)) (o : Fin 2 → ℕ) (ho : ∀ a, o a + S1x16.size a ≤ S256x128.size a)
    (R : Fin 256) (c : Fin 8) (h : o = ![R.val, 16 * c.val]) :
    shapeCast S16 (v.readAt (Elt F) (chunk o ho).toLoadRect f) shapeCasts_S1x16_S16 = rowOf (F := F) (v.read (Elt F) f) R c := by
  subst h
  funext x
  rw [show shapeCast S16 (v.readAt (Elt F) (chunk ![R.val, 16 * c.val] ho).toLoadRect f) shapeCasts_S1x16_S16 x
      = v.readAt (Elt F) (chunk ![R.val, 16 * c.val] ho).toLoadRect f (Fin.cons ⟨0, Nat.one_pos⟩ x) from
    shapeCast_dropUnit_apply (n := 1) ![16] _ _ x]
  rw [View.readAt_apply]
  refine congrArg (v.read (Elt F) f) (funext fun a => Fin.ext ?_)
  match a with
  | ⟨0, _⟩ => show R.val + 1 * 0 = R.val; omega
  | ⟨1, _⟩ => show 16 * c.val + 1 * (x 0).val = 16 * c.val + (x 0).val; omega

/-- The row's stores, last first. -/
def rowPieces (o : Fin 8 → Fin 2 → ℕ) (ho : ∀ c a, o c a + S1x16.size a ≤ S256x128.size a) (w : Row F) : List (View.Piece (Elt F) S256x128 .f32) :=
  [⟨chunk (o 7) (ho 7), shapeCast S1x16 (w 7) shapeCasts_S16_S1x16⟩,
   ⟨chunk (o 6) (ho 6), shapeCast S1x16 (w 6) shapeCasts_S16_S1x16⟩,
   ⟨chunk (o 5) (ho 5), shapeCast S1x16 (w 5) shapeCasts_S16_S1x16⟩,
   ⟨chunk (o 4) (ho 4), shapeCast S1x16 (w 4) shapeCasts_S16_S1x16⟩,
   ⟨chunk (o 3) (ho 3), shapeCast S1x16 (w 3) shapeCasts_S16_S1x16⟩,
   ⟨chunk (o 2) (ho 2), shapeCast S1x16 (w 2) shapeCasts_S16_S1x16⟩,
   ⟨chunk (o 1) (ho 1), shapeCast S1x16 (w 1) shapeCasts_S16_S1x16⟩,
   ⟨chunk (o 0) (ho 0), shapeCast S1x16 (w 0) shapeCasts_S16_S1x16⟩]

theorem mem_rowPieces (o : Fin 8 → Fin 2 → ℕ) (ho : ∀ c a, o c a + S1x16.size a ≤ S256x128.size a) (w : Row F) (p : View.Piece (Elt F) S256x128 .f32)
    (hp : p ∈ rowPieces o ho w) : ∃ c, p = ⟨chunk (o c) (ho c), shapeCast S1x16 (w c) shapeCasts_S16_S1x16⟩ := by
  simp only [rowPieces, List.mem_cons, List.not_mem_nil, or_false] at hp
  rcases hp with h | h | h | h | h | h | h | h
  · exact ⟨7, h⟩
  · exact ⟨6, h⟩
  · exact ⟨5, h⟩
  · exact ⟨4, h⟩
  · exact ⟨3, h⟩
  · exact ⟨2, h⟩
  · exact ⟨1, h⟩
  · exact ⟨0, h⟩

theorem piece_mem (o : Fin 8 → Fin 2 → ℕ) (ho : ∀ c a, o c a + S1x16.size a ≤ S256x128.size a) (w : Row F) (c : Fin 8) :
    (⟨chunk (o c) (ho c), shapeCast S1x16 (w c) shapeCasts_S16_S1x16⟩ : View.Piece (Elt F) S256x128 .f32) ∈ rowPieces o ho w := by
  fin_cases c <;> simp [rowPieces]

/-- Every place of the row lies in one of its chunks. -/
theorem row_cover (o : Fin 8 → Fin 2 → ℕ) (ho : ∀ c a, o c a + S1x16.size a ≤ S256x128.size a) (R : Fin 256) (h : ∀ c : Fin 8, o c = ![R.val, 16 * c.val])
    (y : S256x128.Idx) (hy : (y 0).val = R.val) : ∃ c x, (chunk (o c) (ho c)).emb x = y := by
  have hy1 : (y 1).val < 128 := (y 1).isLt
  obtain ⟨c, hc⟩ : ∃ c : Fin 8, c.val = (y 1).val / 16 := ⟨⟨(y 1).val / 16, by omega⟩, rfl⟩
  obtain ⟨l, hl⟩ : ∃ l : Fin 16, l.val = (y 1).val % 16 := ⟨⟨(y 1).val % 16, by omega⟩, rfl⟩
  refine ⟨c, ix2 (n0 := 1) (n1 := 16) 0 l, Rect.emb_eq_of_coords _ _ _ fun a => ?_⟩
  have h0 : o c 0 = R.val := congrFun (h c) 0
  have h1 : o c 1 = 16 * c.val := congrFun (h c) 1
  match a with
  | ⟨0, _⟩ => show (y 0).val = o c 0 + 1 * 0; omega
  | ⟨1, _⟩ => show (y 1).val = o c 1 + 1 * l.val; omega

theorem row_store {κ : Kind} {sp : Space} (v : View sig κ sp S256x128 .f32) (f : v.ty.Contents (Elt F)) (o : Fin 8 → Fin 2 → ℕ) (ho : ∀ c a, o c a + S1x16.size a ≤ S256x128.size a)
    (R : Fin 256) (h : ∀ c : Fin 8, o c = ![R.val, 16 * c.val]) (w : Row F) :
    v.read (Elt F) (v.writes (Elt F) f (rowPieces o ho w)) = setRow (v.read (Elt F) f) R w := by
  funext y
  unfold setRow
  split
  · rename_i hy
    refine View.read_writes_apply_of_pieces v f (fun y => atCol w (y 1)) _ ?_ y ?_
    · intro p hp x
      obtain ⟨c, rfl⟩ := mem_rowPieces o ho w p hp
      have hx1 : (x 1).val < 16 := (x 1).isLt
      show shapeCast S1x16 (w c) shapeCasts_S16_S1x16 x = atCol w ((chunk (o c) (ho c)).emb x 1)
      have e1 : (chunk (o c) (ho c)).emb x 1 = lane c (fun a => x a.succ) := by
        apply Fin.ext
        show o c 1 + 1 * (x 1).val = 16 * c.val + (x 1).val
        have h1 : o c 1 = 16 * c.val := congrFun (h c) 1
        omega
      refine Eq.trans ?_ ((congrArg (atCol w) e1).trans (atCol_lane w c _)).symm
      exact shapeCast_addUnit_apply (n := 1) ![16] _ _ x
    · obtain ⟨c, x, e⟩ := row_cover o ho R h y hy
      exact ⟨_, piece_mem o ho w c, e ▸ (chunk (o c) (ho c)).idx_mem x⟩
  · rename_i hy
    refine View.read_writes_apply_of_forall_not_mem v f y _ fun p hp => ?_
    obtain ⟨c, rfl⟩ := mem_rowPieces o ho w p hp
    refine (chunk (o c) (ho c)).not_mem_set_of_axis y 0 R.val 1 ?_ rfl rfl ?_
    · show o c 0 = _; rw [h c]; rfl
    · omega

theorem carryA (H a : Row F) : (fun c => nextA (H c) (a c)) = ![nextA (H 0) (a 0), nextA (H 1) (a 1), nextA (H 2) (a 2), nextA (H 3) (a 3), nextA (H 4) (a 4), nextA (H 5) (a 5), nextA (H 6) (a 6), nextA (H 7) (a 7)] := by
  funext c; fin_cases c <;> rfl
theorem carryB (e r : V16 F) (H b : Row F) : (fun c => nextB e r (H c) (b c)) = ![nextB e r (H 0) (b 0), nextB e r (H 1) (b 1), nextB e r (H 2) (b 2), nextB e r (H 3) (b 3), nextB e r (H 4) (b 4), nextB e r (H 5) (b 5), nextB e r (H 6) (b 6), nextB e r (H 7) (b 7)] := by
  funext c; fin_cases c <;> rfl

variable (𝒱 : Variants) {defs : Defs nD τ sig (Elt F) Λ₀}

local notation "𝕄" => MT nD τ sig (HIx 1) (Elt F) ℕ ((URounds (GSem nD τ sig) ℕ) × ((URounds (GSem nD τ sig) Unit) × Counters)) ℕ

set_option maxHeartbeats 2000000 in
/-- One row at the head of a program. -/
theorem wp_row (d : Dev nD) (i : grid0.Coords) {α : Type} {Q : α → sProp 𝕄}
    (arg8 : Memref sig .scVector .vmem S512 .f32) (m : Memref sig .scVector .vmem S256x128 .f32)
    (o : Fin 8 → Fin 2 → ℕ) (ho : ∀ c a, o c a + S1x16.size a ≤ S256x128.size a) (e : V16 F) (w : IVec S16 32)
    (P : Prop) (dP : Decidable P) (hP : P → ∀ a x, ((![w] : Fin 1 → IVec S16 32) a x).toNat < S512.size a) (a b : Row F)
    (k : Row F × Row F → Prog (TpuEff nD τ sig (Elt F) Λ₀ (.scVector ((i 0).castLE hcore0) ((i 1).castLE hsub0))) α)
    (hw : P) (R : Fin 256) (h : ∀ c : Fin 8, o c = ![R.val, 16 * c.val])
    {S8 : Finset (Idx ((arg8.access (.whole S512)).loc (tile d i)))} {q : PosShare TreeShare} {f8 : Buf (Elt F) ((arg8.access (.whole S512)).loc (tile d i))}
    (hS8 : (arg8.access (.whole S512)).set ⊆ S8)
    {S : Finset (Idx (m.view.loc (tile d i)))} {f : Buf (Elt F) (m.view.loc (tile d i))} (hS : m.view.set ⊆ S) :
    iprop(((arg8.access (.whole S512)).loc (tile d i) ↦[S8]{q} f8) ∗ (m.view.loc (tile d i) ↦[S]{fullShare} f))
      ⊢ iprop((∀ f', ⌜m.view.read (Elt F) f' = setRow (m.view.read (Elt F) f) R
              (fun c => outRow e (gath ((arg8.access (.whole S512)).read (Elt F) f8) w (hP hw)) (rowOf (m.view.read (Elt F) f) R c) (a c) (b c))⌝
            -∗ ((arg8.access (.whole S512)).loc (tile d i) ↦[S8]{q} f8) -∗ (m.view.loc (tile d i) ↦[S]{fullShare} f')
            -∗ wp frame (wpE defs 𝒱 (tile d i) none) Set.univ
                (k (fun c => nextA (rowOf (m.view.read (Elt F) f) R c) (a c),
                  fun c => nextB e (gath ((arg8.access (.whole S512)).read (Elt F) f8) w (hP hw)) (rowOf (m.view.read (Elt F) f) R c) (b c))) Q)
          -∗ wp frame (wpE defs 𝒱 (tile d i) none) Set.univ (rowProg i arg8 m o ho e w P dP hP a b k) Q) := by
  have hl : ∀ c, m.view.setOn (chunk (o c) (ho c)).toLoadRect.set ⊆ S := fun c => (View.setOn_subset_set m.view _).trans hS
  have hs : ∀ c, (m.access (chunk (o c) (ho c))).set ⊆ S := fun c => (View.set_slice_subset m.view _).trans hS
  rw [carryA (rowOf (m.view.read (Elt F) f) R) a, carryB e _ (rowOf (m.view.read (Elt F) f) R) b]
  iintro ⟨H8, Hm⟩ Hk
  unfold rowProg
  rw [wp_assume_of _ _ _ _ hw]
  iapply (wp_load_rect 𝒱 (tile d i) none Set.univ (m := arg8) (r := .whole S512) hS8) $$ H8; iintro H8
  iapply (wp_load 𝒱 (tile d i) none Set.univ (m := m) (hl 0)) $$ Hm; iintro Hm
  iapply (wp_load 𝒱 (tile d i) none Set.univ (m := m) (hl 1)) $$ Hm; iintro Hm
  iapply (wp_load 𝒱 (tile d i) none Set.univ (m := m) (hl 2)) $$ Hm; iintro Hm
  iapply (wp_load 𝒱 (tile d i) none Set.univ (m := m) (hl 3)) $$ Hm; iintro Hm
  iapply (wp_load 𝒱 (tile d i) none Set.univ (m := m) (hl 4)) $$ Hm; iintro Hm
  iapply (wp_load 𝒱 (tile d i) none Set.univ (m := m) (hl 5)) $$ Hm; iintro Hm
  iapply (wp_load 𝒱 (tile d i) none Set.univ (m := m) (hl 6)) $$ Hm; iintro Hm
  iapply (wp_load 𝒱 (tile d i) none Set.univ (m := m) (hl 7)) $$ Hm; iintro Hm
  iapply (wp_load 𝒱 (tile d i) none Set.univ (m := m) (hl 0)) $$ Hm; iintro Hm
  iapply (wp_store_writes₀ 𝒱 (tile d i) none Set.univ (m := m) (hs 0)) $$ Hm; iintro Hm
  iapply (wp_load 𝒱 (tile d i) none Set.univ (m := m) (hl 1)) $$ Hm; iintro Hm
  iapply (wp_store_writes 𝒱 (tile d i) none Set.univ (m := m) (hs 1)) $$ Hm; iintro Hm
  iapply (wp_load 𝒱 (tile d i) none Set.univ (m := m) (hl 2)) $$ Hm; iintro Hm
  iapply (wp_store_writes 𝒱 (tile d i) none Set.univ (m := m) (hs 2)) $$ Hm; iintro Hm
  iapply (wp_load 𝒱 (tile d i) none Set.univ (m := m) (hl 3)) $$ Hm; iintro Hm
  iapply (wp_store_writes 𝒱 (tile d i) none Set.univ (m := m) (hs 3)) $$ Hm; iintro Hm
  iapply (wp_load 𝒱 (tile d i) none Set.univ (m := m) (hl 4)) $$ Hm; iintro Hm
  iapply (wp_store_writes 𝒱 (tile d i) none Set.univ (m := m) (hs 4)) $$ Hm; iintro Hm
  iapply (wp_load 𝒱 (tile d i) none Set.univ (m := m) (hl 5)) $$ Hm; iintro Hm
  iapply (wp_store_writes 𝒱 (tile d i) none Set.univ (m := m) (hs 5)) $$ Hm; iintro Hm
  iapply (wp_load 𝒱 (tile d i) none Set.univ (m := m) (hl 6)) $$ Hm; iintro Hm
  iapply (wp_store_writes 𝒱 (tile d i) none Set.univ (m := m) (hs 6)) $$ Hm; iintro Hm
  iapply (wp_load 𝒱 (tile d i) none Set.univ (m := m) (hl 7)) $$ Hm; iintro Hm
  iapply (wp_store_writes 𝒱 (tile d i) none Set.univ (m := m) (hs 7)) $$ Hm; iintro Hm
  simp only [row_load m.view f (o 0) (ho 0) R 0 (h 0), row_load m.view f (o 1) (ho 1) R 1 (h 1), row_load m.view f (o 2) (ho 2) R 2 (h 2), row_load m.view f (o 3) (ho 3) R 3 (h 3), row_load m.view f (o 4) (ho 4) R 4 (h 4), row_load m.view f (o 5) (ho 5) R 5 (h 5), row_load m.view f (o 6) (ho 6) R 6 (h 6), row_load m.view f (o 7) (ho 7) R 7 (h 7)] at *
  iapply Hk $$ [] [H8] [Hm]
  · ipureintro
    exact row_store m.view f o ho R h fun c => outRow e (gath ((arg8.access (.whole S512)).read (Elt F) f8) w (hP hw)) (rowOf (m.view.read (Elt F) f) R c) (a c) (b c)
  · iexact H8
  · iexact Hm

end Cert.Proof.KIdeal
-- ==== Proof.Trip.lean ====
/-
  The running sums down a tile's panel, and one trip of the inner loop: eight rows.
-/
module

public import proofs.«01_k».proof.Proof.RowWp

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The two running sums, row by row -/

/-- Sixteen zeros. -/
def zero16 : V16 F := broadcast S16 (Scalar.ofBits .f32 0x00000000#32 : F .f32)

/-- The decay of row `g`, in every lane. -/
def decayAt (rv : Vec F S512 .f32) (g : ℕ) : V16 F := fun _ => rv (ix1 ⟨g % 512, Nat.mod_lt _ (by decide)⟩)

/-- The two running sums after `g` rows of `H`. -/
def accs (e : V16 F) (rv : Vec F S512 .f32) (H : ℕ → Row F) : ℕ → Row F × Row F
  | 0 => (fun _ => zero16, fun _ => zero16)
  | g + 1 => (fun c => nextA (H g c) ((accs e rv H g).1 c), fun c => nextB e (decayAt rv g) (H g c) ((accs e rv H g).2 c))

/-- What row `g` is left holding. -/
def outs (e : V16 F) (rv : Vec F S512 .f32) (H : ℕ → Row F) (g : ℕ) : Row F :=
  fun c => outRow e (decayAt rv g) (H g c) ((accs e rv H g).1 c) ((accs e rv H g).2 c)

/-- Half `k` of the staging buffer with its first `R` rows done. -/
def panelAt (e : V16 F) (rv : Vec F S512 .f32) (H : ℕ → Row F) (k R : ℕ) : Panel F :=
  fun y => if (y 0).val < R then atCol (outs e rv H (256 * k + (y 0).val)) (y 1) else atCol (H (256 * k + (y 0).val)) (y 1)

theorem panelAt_row (e : V16 F) (rv : Vec F S512 .f32) (H : ℕ → Row F) (k : ℕ) (R : Fin 256) :
    rowOf (panelAt e rv H k R.val) R = H (256 * k + R.val) := by
  funext c x
  show (if R.val < R.val then _ else atCol (H (256 * k + R.val)) (lane c x)) = _
  rw [if_neg (Nat.lt_irrefl _), atCol_lane]

theorem panelAt_succ (e : V16 F) (rv : Vec F S512 .f32) (H : ℕ → Row F) (k : ℕ) (R : Fin 256) :
    setRow (panelAt e rv H k R.val) R (outs e rv H (256 * k + R.val)) = panelAt e rv H k (R.val + 1) := by
  funext y
  unfold setRow panelAt
  by_cases h : (y 0).val = R.val
  · rw [if_pos h, if_pos (by omega), h]
  · rw [if_neg h]
    by_cases h' : (y 0).val < R.val
    · rw [if_pos h', if_pos (by omega)]
    · rw [if_neg h', if_neg (by omega)]

theorem gath_eq (rv : Vec F S512 .f32) (w : IVec S16 32) (h : ∀ a x, ((![w] : Fin 1 → IVec S16 32) a x).toNat < S512.size a) (g : ℕ) (hg : ∀ x, (w x).toNat = g) :
    gath rv w h = decayAt rv g := by
  funext x
  have hg' : g < 512 := hg x ▸ h 0 x
  show rv _ = rv _
  refine congrArg rv (funext fun a => Fin.ext ?_)
  match a with
  | ⟨0, _⟩ => show (w x).toNat = g % 512; rw [hg x, Nat.mod_eq_of_lt hg']

variable (𝒱 : Variants) {defs : Defs nD τ sig (Elt F) Λ₀}

local notation "𝕄" => MT nD τ sig (HIx 1) (Elt F) ℕ ((URounds (GSem nD τ sig) ℕ) × ((URounds (GSem nD τ sig) Unit) × Counters)) ℕ

/-- One row of the panel at the running sums. -/
theorem wp_rowAt (d : Dev nD) (i : grid0.Coords) {α : Type} {Q : α → sProp 𝕄}
    (arg8 : Memref sig .scVector .vmem S512 .f32) (m : Memref sig .scVector .vmem S256x128 .f32)
    (o : Fin 8 → Fin 2 → ℕ) (ho : ∀ c a, o c a + S1x16.size a ≤ S256x128.size a) (e : V16 F) (w : IVec S16 32)
    (P : Prop) (dP : Decidable P) (hP : P → ∀ a x, ((![w] : Fin 1 → IVec S16 32) a x).toNat < S512.size a)
    (k : Row F × Row F → Prog (TpuEff nD τ sig (Elt F) Λ₀ (.scVector ((i 0).castLE hcore0) ((i 1).castLE hsub0))) α)
    (rv : Vec F S512 .f32) (H : ℕ → Row F) (kk R : ℕ) (hR : R < 256) (hw : P) (hg : ∀ x, (w x).toNat = 256 * kk + R) (h : ∀ c : Fin 8, o c = ![R, 16 * c.val])
    {S8 : Finset (Idx ((arg8.access (.whole S512)).loc (tile d i)))} {q : PosShare TreeShare} {f8 : Buf (Elt F) ((arg8.access (.whole S512)).loc (tile d i))}
    (hS8 : (arg8.access (.whole S512)).set ⊆ S8) (h8 : (arg8.access (.whole S512)).read (Elt F) f8 = rv)
    {S : Finset (Idx (m.view.loc (tile d i)))} {f : Buf (Elt F) (m.view.loc (tile d i))} (hS : m.view.set ⊆ S) (hf : m.view.read (Elt F) f = panelAt e rv H kk R) :
    iprop(((arg8.access (.whole S512)).loc (tile d i) ↦[S8]{q} f8) ∗ (m.view.loc (tile d i) ↦[S]{fullShare} f))
      ⊢ iprop((∀ f', ⌜m.view.read (Elt F) f' = panelAt e rv H kk (R + 1)⌝
            -∗ ((arg8.access (.whole S512)).loc (tile d i) ↦[S8]{q} f8) -∗ (m.view.loc (tile d i) ↦[S]{fullShare} f')
            -∗ wp frame (wpE defs 𝒱 (tile d i) none) Set.univ (k (accs e rv H (256 * kk + R + 1))) Q)
          -∗ wp frame (wpE defs 𝒱 (tile d i) none) Set.univ (rowProg i arg8 m o ho e w P dP hP (accs e rv H (256 * kk + R)).1 (accs e rv H (256 * kk + R)).2 k) Q) := by
  have key := wp_row 𝒱 (defs := defs) (Q := Q) d i arg8 m o ho e w P dP hP (accs e rv H (256 * kk + R)).1 (accs e rv H (256 * kk + R)).2 k hw ⟨R, hR⟩ h hS8 (f8 := f8) (q := q) hS (f := f)
  rw [hf, h8, gath_eq rv w (hP hw) _ hg, panelAt_row e rv H kk ⟨R, hR⟩] at key
  rw [show (fun c => outRow e (decayAt rv (256 * kk + R)) (H (256 * kk + R) c) ((accs e rv H (256 * kk + R)).1 c) ((accs e rv H (256 * kk + R)).2 c))
    = outs e rv H (256 * kk + R) from rfl, panelAt_succ e rv H kk ⟨R, hR⟩] at key
  exact key

theorem half_congr (arg9 : Memref sig .scVector .vmem S2x256x128 .f32) {o o' : Fin 3 → ℕ} (ho : ∀ a, o a + S1x256x128.size a ≤ S2x256x128.size a)
    (ho' : ∀ a, o' a + S1x256x128.size a ≤ S2x256x128.size a) (h : o = o') : half arg9 o ho = half arg9 o' ho' := by
  subst h; rfl

theorem half_inb (k : Fin k0_t2_loop.trips) : ∀ a, (![k.val, 0, 0] : Fin 3 → ℕ) a + S1x256x128.size a ≤ S2x256x128.size a := by
  decide +revert

/-- Half `k` of the staging buffer, at its closed offsets. -/
abbrev halfK (arg9 : Memref sig .scVector .vmem S2x256x128 .f32) (k : Fin k0_t2_loop.trips) : Memref sig .scVector .vmem S256x128 .f32 :=
  half arg9 ![k.val, 0, 0] (half_inb k)

theorem rowWord_toNat (k2 : Fin k0_t2_loop.trips) (k0_t3 : Fin k0_t3_loop.trips) (u : Fin 8) (x : S16.Idx) :
    (rowWord (Scf.iv 0#32 1#32 k2) k0_t3 (BitVec.ofNat 32 u.val) x).toNat = 256 * k2.val + (8 * k0_t3.val + u.val) := by
  show (Scalar.addi (Scalar.muli (Scf.iv 0#32 1#32 k2) 256#32) (Scalar.addi (Scalar.muli (Scf.iv 0#32 1#32 k0_t3) 8#32) (BitVec.ofNat 32 u.val))).toNat = _
  revert k2 k0_t3 u
  decide +kernel

theorem offs0_eq (k0_t3 : Fin k0_t3_loop.trips) : ∀ c : Fin 8, offs0 k0_t3 c = ![8 * k0_t3.val + 0, 16 * c.val]
  | 0 => k0_off9_eq k0_t3
  | 1 => k0_off10_eq k0_t3
  | 2 => k0_off11_eq k0_t3
  | 3 => k0_off12_eq k0_t3
  | 4 => k0_off13_eq k0_t3
  | 5 => k0_off14_eq k0_t3
  | 6 => k0_off15_eq k0_t3
  | 7 => k0_off16_eq k0_t3
theorem offs1_eq (k0_t3 : Fin k0_t3_loop.trips) : ∀ c : Fin 8, offs1 k0_t3 c = ![8 * k0_t3.val + 1, 16 * c.val]
  | 0 => k0_off18_eq k0_t3
  | 1 => k0_off19_eq k0_t3
  | 2 => k0_off20_eq k0_t3
  | 3 => k0_off21_eq k0_t3
  | 4 => k0_off22_eq k0_t3
  | 5 => k0_off23_eq k0_t3
  | 6 => k0_off24_eq k0_t3
  | 7 => k0_off25_eq k0_t3
theorem offs2_eq (k0_t3 : Fin k0_t3_loop.trips) : ∀ c : Fin 8, offs2 k0_t3 c = ![8 * k0_t3.val + 2, 16 * c.val]
  | 0 => k0_off27_eq k0_t3
  | 1 => k0_off28_eq k0_t3
  | 2 => k0_off29_eq k0_t3
  | 3 => k0_off30_eq k0_t3
  | 4 => k0_off31_eq k0_t3
  | 5 => k0_off32_eq k0_t3
  | 6 => k0_off33_eq k0_t3
  | 7 => k0_off34_eq k0_t3
theorem offs3_eq (k0_t3 : Fin k0_t3_loop.trips) : ∀ c : Fin 8, offs3 k0_t3 c = ![8 * k0_t3.val + 3, 16 * c.val]
  | 0 => k0_off36_eq k0_t3
  | 1 => k0_off37_eq k0_t3
  | 2 => k0_off38_eq k0_t3
  | 3 => k0_off39_eq k0_t3
  | 4 => k0_off40_eq k0_t3
  | 5 => k0_off41_eq k0_t3
  | 6 => k0_off42_eq k0_t3
  | 7 => k0_off43_eq k0_t3
theorem offs4_eq (k0_t3 : Fin k0_t3_loop.trips) : ∀ c : Fin 8, offs4 k0_t3 c = ![8 * k0_t3.val + 4, 16 * c.val]
  | 0 => k0_off45_eq k0_t3
  | 1 => k0_off46_eq k0_t3
  | 2 => k0_off47_eq k0_t3
  | 3 => k0_off48_eq k0_t3
  | 4 => k0_off49_eq k0_t3
  | 5 => k0_off50_eq k0_t3
  | 6 => k0_off51_eq k0_t3
  | 7 => k0_off52_eq k0_t3
theorem offs5_eq (k0_t3 : Fin k0_t3_loop.trips) : ∀ c : Fin 8, offs5 k0_t3 c = ![8 * k0_t3.val + 5, 16 * c.val]
  | 0 => k0_off54_eq k0_t3
  | 1 => k0_off55_eq k0_t3
  | 2 => k0_off56_eq k0_t3
  | 3 => k0_off57_eq k0_t3
  | 4 => k0_off58_eq k0_t3
  | 5 => k0_off59_eq k0_t3
  | 6 => k0_off60_eq k0_t3
  | 7 => k0_off61_eq k0_t3
theorem offs6_eq (k0_t3 : Fin k0_t3_loop.trips) : ∀ c : Fin 8, offs6 k0_t3 c = ![8 * k0_t3.val + 6, 16 * c.val]
  | 0 => k0_off63_eq k0_t3
  | 1 => k0_off64_eq k0_t3
  | 2 => k0_off65_eq k0_t3
  | 3 => k0_off66_eq k0_t3
  | 4 => k0_off67_eq k0_t3
  | 5 => k0_off68_eq k0_t3
  | 6 => k0_off69_eq k0_t3
  | 7 => k0_off70_eq k0_t3
theorem offs7_eq (k0_t3 : Fin k0_t3_loop.trips) : ∀ c : Fin 8, offs7 k0_t3 c = ![8 * k0_t3.val + 7, 16 * c.val]
  | 0 => k0_off72_eq k0_t3
  | 1 => k0_off73_eq k0_t3
  | 2 => k0_off74_eq k0_t3
  | 3 => k0_off75_eq k0_t3
  | 4 => k0_off76_eq k0_t3
  | 5 => k0_off77_eq k0_t3
  | 6 => k0_off78_eq k0_t3
  | 7 => k0_off79_eq k0_t3

set_option maxHeartbeats 2000000 in
/-- One trip of the inner loop. -/
theorem wp_trip (d : Dev nD) (i : grid0.Coords) {Q : Carry F → sProp 𝕄}
    (arg8 : Memref sig .scVector .vmem S512 .f32) (arg9 : Memref sig .scVector .vmem S2x256x128 .f32) (e : V16 F)
    (rv : Vec F S512 .f32) (H : ℕ → Row F) (k2 : Fin k0_t2_loop.trips) (k0_t3 : Fin k0_t3_loop.trips)
    {S8 : Finset (Idx ((arg8.access (.whole S512)).loc (tile d i)))} {q : PosShare TreeShare} {f8 : Buf (Elt F) ((arg8.access (.whole S512)).loc (tile d i))}
    (hS8 : (arg8.access (.whole S512)).set ⊆ S8) (h8 : (arg8.access (.whole S512)).read (Elt F) f8 = rv)
    {S : Finset (Idx ((halfK arg9 k2).view.loc (tile d i)))} {f : Buf (Elt F) ((halfK arg9 k2).view.loc (tile d i))} (hS : (halfK arg9 k2).view.set ⊆ S)
    (hf : (halfK arg9 k2).view.read (Elt F) f = panelAt e rv H k2.val (8 * k0_t3.val)) :
    iprop(((arg8.access (.whole S512)).loc (tile d i) ↦[S8]{q} f8) ∗ ((halfK arg9 k2).view.loc (tile d i) ↦[S]{fullShare} f))
      ⊢ iprop((∀ f', ⌜(halfK arg9 k2).view.read (Elt F) f' = panelAt e rv H k2.val (8 * (k0_t3.val + 1))⌝
            -∗ ((arg8.access (.whole S512)).loc (tile d i) ↦[S8]{q} f8) -∗ ((halfK arg9 k2).view.loc (tile d i) ↦[S]{fullShare} f')
            -∗ Q (pack (accs e rv H (256 * k2.val + 8 * (k0_t3.val + 1)))))
          -∗ wp frame (wpE defs 𝒱 (tile d i) none) Set.univ
              (tripRows i arg8 arg9 e k2 (Scf.iv 0#32 1#32 k2) k0_t3 (accs e rv H (256 * k2.val + 8 * k0_t3.val))) Q) := by
  have ht : k0_t3.val < 32 := k0_t3.isLt
  have hk : k2.val < 2 := k2.isLt
  have hchk : ∀ u : Fin 8, ∀ a x, ((![rowWord (Scf.iv 0#32 1#32 k2) k0_t3 (BitVec.ofNat 32 u.val)] : Fin 1 → IVec S16 32) a x).toNat < S512.size a := by
    intro u a x
    obtain rfl : a = 0 := Subsingleton.elim _ _
    show (rowWord (Scf.iv 0#32 1#32 k2) k0_t3 (BitVec.ofNat 32 u.val) x).toNat < 512
    have := u.isLt
    rw [rowWord_toNat]; omega
  unfold tripRows
  rw [half_congr arg9 (k0_off8_inb k2) (half_inb k2) (k0_off8_eq k2), half_congr arg9 (k0_off17_inb k2) (half_inb k2) (k0_off17_eq k2), half_congr arg9 (k0_off26_inb k2) (half_inb k2) (k0_off26_eq k2), half_congr arg9 (k0_off35_inb k2) (half_inb k2) (k0_off35_eq k2), half_congr arg9 (k0_off44_inb k2) (half_inb k2) (k0_off44_eq k2), half_congr arg9 (k0_off53_inb k2) (half_inb k2) (k0_off53_eq k2), half_congr arg9 (k0_off62_inb k2) (half_inb k2) (k0_off62_eq k2), half_congr arg9 (k0_off71_inb k2) (half_inb k2) (k0_off71_eq k2)]
  iintro ⟨H8, Hm⟩ Hk
  iapply (wp_rowAt 𝒱 d i arg8 (halfK arg9 k2) (offs0 k0_t3) (offs0_inb k0_t3) e (rowWord (Scf.iv 0#32 1#32 k2) k0_t3 0#32) _ (k0_chk4.dec _) (k0_idx4_inb _) _
    rv H k2.val (8 * k0_t3.val + 0) (by omega) (hchk 0) (rowWord_toNat k2 k0_t3 0) (offs0_eq k0_t3) hS8 h8 hS hf) $$ [H8 Hm]
  · isplitl [H8]; · iexact H8
    iexact Hm
  iintro %f1 %hf1 H8 Hm
  iapply (wp_rowAt 𝒱 d i arg8 (halfK arg9 k2) (offs1 k0_t3) (offs1_inb k0_t3) e (rowWord (Scf.iv 0#32 1#32 k2) k0_t3 1#32) _ (k0_chk5.dec _) (k0_idx5_inb _) _
    rv H k2.val (8 * k0_t3.val + 1) (by omega) (hchk 1) (rowWord_toNat k2 k0_t3 1) (offs1_eq k0_t3) hS8 h8 hS hf1) $$ [H8 Hm]
  · isplitl [H8]; · iexact H8
    iexact Hm
  iintro %f2 %hf2 H8 Hm
  iapply (wp_rowAt 𝒱 d i arg8 (halfK arg9 k2) (offs2 k0_t3) (offs2_inb k0_t3) e (rowWord (Scf.iv 0#32 1#32 k2) k0_t3 2#32) _ (k0_chk6.dec _) (k0_idx6_inb _) _
    rv H k2.val (8 * k0_t3.val + 2) (by omega) (hchk 2) (rowWord_toNat k2 k0_t3 2) (offs2_eq k0_t3) hS8 h8 hS hf2) $$ [H8 Hm]
  · isplitl [H8]; · iexact H8
    iexact Hm
  iintro %f3 %hf3 H8 Hm
  iapply (wp_rowAt 𝒱 d i arg8 (halfK arg9 k2) (offs3 k0_t3) (offs3_inb k0_t3) e (rowWord (Scf.iv 0#32 1#32 k2) k0_t3 3#32) _ (k0_chk7.dec _) (k0_idx7_inb _) _
    rv H k2.val (8 * k0_t3.val + 3) (by omega) (hchk 3) (rowWord_toNat k2 k0_t3 3) (offs3_eq k0_t3) hS8 h8 hS hf3) $$ [H8 Hm]
  · isplitl [H8]; · iexact H8
    iexact Hm
  iintro %f4 %hf4 H8 Hm
  iapply (wp_rowAt 𝒱 d i arg8 (halfK arg9 k2) (offs4 k0_t3) (offs4_inb k0_t3) e (rowWord (Scf.iv 0#32 1#32 k2) k0_t3 4#32) _ (k0_chk8.dec _) (k0_idx8_inb _) _
    rv H k2.val (8 * k0_t3.val + 4) (by omega) (hchk 4) (rowWord_toNat k2 k0_t3 4) (offs4_eq k0_t3) hS8 h8 hS hf4) $$ [H8 Hm]
  · isplitl [H8]; · iexact H8
    iexact Hm
  iintro %f5 %hf5 H8 Hm
  iapply (wp_rowAt 𝒱 d i arg8 (halfK arg9 k2) (offs5 k0_t3) (offs5_inb k0_t3) e (rowWord (Scf.iv 0#32 1#32 k2) k0_t3 5#32) _ (k0_chk9.dec _) (k0_idx9_inb _) _
    rv H k2.val (8 * k0_t3.val + 5) (by omega) (hchk 5) (rowWord_toNat k2 k0_t3 5) (offs5_eq k0_t3) hS8 h8 hS hf5) $$ [H8 Hm]
  · isplitl [H8]; · iexact H8
    iexact Hm
  iintro %f6 %hf6 H8 Hm
  iapply (wp_rowAt 𝒱 d i arg8 (halfK arg9 k2) (offs6 k0_t3) (offs6_inb k0_t3) e (rowWord (Scf.iv 0#32 1#32 k2) k0_t3 6#32) _ (k0_chk10.dec _) (k0_idx10_inb _) _
    rv H k2.val (8 * k0_t3.val + 6) (by omega) (hchk 6) (rowWord_toNat k2 k0_t3 6) (offs6_eq k0_t3) hS8 h8 hS hf6) $$ [H8 Hm]
  · isplitl [H8]; · iexact H8
    iexact Hm
  iintro %f7 %hf7 H8 Hm
  iapply (wp_rowAt 𝒱 d i arg8 (halfK arg9 k2) (offs7 k0_t3) (offs7_inb k0_t3) e (rowWord (Scf.iv 0#32 1#32 k2) k0_t3 7#32) _ (k0_chk11.dec _) (k0_idx11_inb _) _
    rv H k2.val (8 * k0_t3.val + 7) (by omega) (hchk 7) (rowWord_toNat k2 k0_t3 7) (offs7_eq k0_t3) hS8 h8 hS hf7) $$ [H8 Hm]
  · isplitl [H8]; · iexact H8
    iexact Hm
  iintro %f8 %hf8 H8 Hm
  rw [wp_ret]
  imodintro
  iapply Hk $$ %_ %hf8 H8 Hm

end Cert.Proof.KIdeal
-- ==== Proof.Decay.lean ====
/-
  The loop that fills the row decays: trip `k` reads sixteen times of the row at hand and the sixteen times before
  them, and stores the sixteen decays.
-/
module

public import proofs.«01_k».proof.Proof.Trip

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! ## The kernel's memrefs -/

/-- The four arrays as a tile names them, and its four scratch buffers. -/
abbrev hV : Memref sig .scVector .hbm S8x512x768 .f32 := Memref.whole main_arg0_scv
abbrev tV : Memref sig .scVector .hbm S8x512 .f32 := Memref.whole main_arg1_scv
abbrev pV : Memref sig .scVector .hbm S16 .f32 := Memref.whole main_v4_scv
abbrev oV : Memref sig .scVector .hbm S8x512x768 .f32 := Memref.whole main_v5_scv
abbrev sP : Memref sig .scVector .vmem S16 .f32 := Memref.whole cc0_scratch0
abbrev sT : Memref sig .scVector .vmem S512 .f32 := Memref.whole cc0_scratch1
abbrev sR : Memref sig .scVector .vmem S512 .f32 := Memref.whole cc0_scratch2
abbrev sB : Memref sig .scVector .vmem S2x256x128 .f32 := Memref.whole cc0_scratch3

/-! ## The decays -/

/-- The row before `s`, row 0 before itself. -/
def prev (s : S512.Idx) : S512.Idx := ix1 ⟨(s 0).val - 1, Nat.lt_of_le_of_lt (Nat.sub_le _ _) (s 0).isLt⟩

/-- The row decays at rate `b` along the times `t`. -/
def decay (b : F .f32) (t : Vec F S512 .f32) : Vec F S512 .f32 := exp (mulf (fun _ => b) (subf t (fun s => t (prev s))))

theorem pay_decay (b : F .f32) (t : Vec F S512 .f32) (v w : Vec F S16 .f32) (x : S16.Idx) (s : S512.Idx) (hv : v x = t s) (hw : w x = t (prev s)) :
    k0_pay321 (fun _ => b) v w x = decay b t s := by
  show FloatOps.exp (FloatOps.mulf b (FloatOps.subf (v x) (w x))) = FloatOps.exp (FloatOps.mulf b (FloatOps.subf (t s) (t (prev s))))
  rw [hv, hw]

/-- The rows of trip `k`. -/
theorem pay320_toNat : ∀ (k : Fin k0_t1_loop.trips) (x : S16.Idx), (k0_pay320 k x).toNat = 16 * k.val + (x 0).val - 1 := by decide +kernel

theorem chk3_holds (k : Fin k0_t1_loop.trips) : k0_chk3 (k0_pay320 k) := by
  intro a x
  obtain rfl : a = 0 := Subsingleton.elim _ _
  show (k0_pay320 k x).toNat < 512
  have hk : k.val < 32 := k.isLt
  have hx : (x 0).val < 16 := (x 0).isLt
  rw [pay320_toNat]; omega

/-- The sixteen rows of trip `k` of a vector of 512. -/
abbrev block (k : Fin k0_t1_loop.trips) : Rect S512 := Rect.unit (s := S512) (k0_off5 k) S16.size (k0_off5_inb k)

theorem block_emb (k : Fin k0_t1_loop.trips) (x : S16.Idx) : ((block k).emb x 0).val = 16 * k.val + (x 0).val := by
  have h : k0_off5 k 0 = 16 * k.val := congrFun (k0_off5_eq k) 0
  show k0_off5 k 0 + 1 * (x 0).val = _
  omega

theorem load_block (k : Fin k0_t1_loop.trips) (o : Fin 1 → ℕ) (ho : ∀ a, o a + S16.size a ≤ S512.size a) (h : o = ![16 * k.val]) (t : Vec F S512 .f32) (x : S16.Idx) :
    (sT).view.readAt (Elt F) (Rect.unit (s := S512) o S16.size ho).toLoadRect t x = t ((block k).emb x) := by
  subst h
  rw [View.readAt_apply]
  refine congrArg t (funext fun a => Fin.ext ?_)
  match a with
  | ⟨0, _⟩ => exact ((block_emb k x).trans (by show _ = 16 * k.val + 1 * (x 0).val; omega)).symm

theorem gather_prev (k : Fin k0_t1_loop.trips) (t : Vec F S512 .f32) (w : IVec S16 32) (h : ∀ a x, ((![w] : Fin 1 → IVec S16 32) a x).toNat < S512.size a)
    (hw : ∀ x : S16.Idx, (w x).toNat = 16 * k.val + (x 0).val - 1) (x : S16.Idx) :
    loadIdx (((sT).access (.whole S512)).read (Elt F) t) ![w] h x = t (prev ((block k).emb x)) := by
  show t _ = t _
  refine congrArg t (funext fun a => Fin.ext ?_)
  match a with
  | ⟨0, _⟩ =>
    show 0 + 1 * (w x).toNat = ((block k).emb x 0).val - 1
    rw [block_emb, hw]; omega

/-- The first `16 k` rows of the buffer hold the decays. -/
def filled (b : F .f32) (t : Vec F S512 .f32) (k : ℕ) (f : Vec F S512 .f32) : Prop := ∀ s : S512.Idx, (s 0).val < 16 * k → f s = decay b t s

theorem filled_succ (b : F .f32) (t : Vec F S512 .f32) (k : Fin k0_t1_loop.trips) (f : Vec F S512 .f32) (hf : filled b t k.val f) (w : V16 F)
    (hw : ∀ x : S16.Idx, w x = decay b t ((block k).emb x)) :
    filled b t (k.val + 1) ((sR).view.writes (Elt F) f [⟨block k, w⟩]) := by
  intro s hs
  show (sR).view.read (Elt F) ((sR).view.writes (Elt F) f [⟨block k, w⟩]) s = _
  by_cases h : (s 0).val < 16 * k.val
  · rw [View.read_writes_apply_of_forall_not_mem]
    · exact hf s h
    · intro p hp
      obtain rfl := List.mem_singleton.mp hp
      refine (block k).not_mem_set_of_axis s 0 (16 * k.val) 16 (congrFun (k0_off5_eq k) 0) rfl rfl ?_
      omega
  · refine View.read_writes_apply_of_pieces (sR).view f (decay b t) _ ?_ s ?_
    · intro p hp x
      obtain rfl := List.mem_singleton.mp hp
      exact hw x
    · refine ⟨_, List.mem_singleton.mpr rfl, ?_⟩
      have hk : k.val < 32 := k.isLt
      obtain ⟨c, hc⟩ : ∃ c : Fin 16, c.val = (s 0).val - 16 * k.val := ⟨⟨(s 0).val - 16 * k.val, by omega⟩, rfl⟩
      have : (block k).toLoadRect.idx (ix1 c) = s := by
        funext a
        obtain rfl : a = 0 := Subsingleton.elim _ _
        apply Fin.ext
        exact (block_emb k (ix1 c)).trans (by show 16 * k.val + c.val = _; omega)
      rw [← this]
      exact (block k).idx_mem _

variable (𝒱 : Variants) {defs : Defs nD τ sig (Elt F) Λ₀} (d : Dev nD) (i : grid0.Coords)

/-- An indexed load of a tile's scratch, its contents named as the scratch holds them. -/
theorem wp_gather {α : Type} {Q : α → sProp 𝕄} {s u : Shape} {e : EltTy} (m : Memref sig .scVector .vmem s e) {w : Fin s.rank → IVec u 32} {h : ∀ a x, (w a x).toNat < s.size a} {hl : m.view.Loads}
    {k : Vec F u e → Prog (TpuEff nD τ sig (Elt F) Λ₀ (.scVector ((i 0).castLE hcore0) ((i 1).castLE hsub0))) α}
    {q : PosShare TreeShare} {f : Buf (Elt F) (m.view.loc (tile d i))} :
    (m.view.loc (tile d i) ↦{q} f) ⊢ iprop(((m.view.loc (tile d i) ↦{q} f) -∗ wp frame (wpE defs 𝒱 (tile d i) none) Set.univ (k (loadIdx ((m.access (.whole s)).read (Elt F) f) w h)) Q)
      -∗ wp frame (wpE defs 𝒱 (tile d i) none) Set.univ (SparseCore.vectorLoadIdx m w h hl >>= k) Q) :=
  SparseCore.wp_vectorLoadIdx 𝒱 (tile d i) none Set.univ (base := m) (S := Finset.univ) (Finset.subset_univ _)

/-- A store into a tile's scratch, as one write. -/
theorem wp_put {α : Type} {Q : α → sProp 𝕄} {s : Shape} {e : EltTy} (m : Memref sig .scVector .vmem s e) {r : Rect s} {w : r.shape.Idx → Elt F e}
    {hx : (m.access r).Stores Finset.univ} {hm : Finset.univ = Finset.univ ∨ ∀ a, r.stride a = 1}
    {k : PUnit → Prog (TpuEff nD τ sig (Elt F) Λ₀ (.scVector ((i 0).castLE hcore0) ((i 1).castLE hsub0))) α} {f : Buf (Elt F) (m.view.loc (tile d i))} :
    (m.view.loc (tile d i) ↦{fullShare} f) ⊢ iprop(((m.view.loc (tile d i) ↦{fullShare} m.view.writes (Elt F) f [⟨r, w⟩]) -∗ wp frame (wpE defs 𝒱 (tile d i) none) Set.univ (k ⟨⟩) Q)
      -∗ wp frame (wpE defs 𝒱 (tile d i) none) Set.univ (.op (.store m r w Finset.univ hx hm) k) Q) :=
  wp_store_writes₀ 𝒱 (tile d i) none Set.univ (m := m) (S := Finset.univ) (Finset.subset_univ _)

/-- Before trip `k` of the loop. -/
def invDecay (b : F .f32) (t : Vec F S512 .f32) (k : ℕ) (_ : BitVec 32) : sProp 𝕄 :=
  iprop(((sT).view.loc (tile d i) ↦{fullShare} t) ∗ ∃ f, ⌜filled b t k f⌝ ∗ (sR).view.loc (tile d i) ↦{fullShare} f)

set_option maxHeartbeats 1000000 in
theorem decay_trip (b : F .f32) (t : Vec F S512 .f32) (harg2 harg3 harg4 harg5 harg6 harg7 harg8 harg9) (k : Fin k0_t1_loop.trips) (acc : BitVec 32) :
    invDecay d i b t k.val acc ⊢ wp frame (wpE defs 𝒱 (tile d i) none) Set.univ
      (k0_t1_body i hV harg2 tV harg3 pV harg4 oV harg5 sP harg6 sT harg7 sR harg8 sB harg9
            cc0_scratch4 cc0_scratch5 cc0_scratch6 cc0_scratch7 cc0_scoped0 cc0_scoped1 (fun _ => b) k acc) (invDecay d i b t (k.val + 1)) := by
  have hw := pay320_toNat k
  have hc := chk3_holds k
  unfold k0_t1_body
  generalize k0_pay320 k = w at hw hc ⊢
  simp only [Prog.lift, Prog.bind_op, Prog.bind_ret, Prog.pure_eq_ret]
  unfold invDecay
  iintro ⟨Ht, %f, %hf, Hr⟩
  rw [wp_assume_of _ _ _ _ hc]
  iapply (wp_load 𝒱 (tile d i) none Set.univ (m := sT) (S := Finset.univ) (Finset.subset_univ _)) $$ Ht; iintro Ht
  iapply (wp_gather 𝒱 d i sT) $$ Ht; iintro Ht
  iapply (wp_load 𝒱 (tile d i) none Set.univ (m := sR) (S := Finset.univ) (Finset.subset_univ _)) $$ Hr; iintro Hr
  iapply (wp_put 𝒱 d i sR) $$ Hr; iintro Hr
  rw [wp_ret]; imodintro
  isplitl [Ht]; · iexact Ht
  iexists _
  isplitr [Hr]
  rotate_left
  · iexact Hr
  ipureintro
  refine filled_succ b t k f hf _ fun x => ?_
  refine pay_decay b t _ _ x _ ?_ ?_
  · exact load_block k _ _ (k0_off4_eq k) t x
  · exact gather_prev k t _ _ hw x

theorem wp_decay {α : Type} {Q : α → sProp 𝕄} (b : F .f32) (t : Vec F S512 .f32)
    (kk : BitVec 32 → Prog (TpuEff nD τ sig (Elt F) Λ₀ (.scVector ((i 0).castLE hcore0) ((i 1).castLE hsub0))) α) (harg2 harg3 harg4 harg5 harg6 harg7 harg8 harg9) (f0 : Vec F S512 .f32) :
    iprop(((sT).view.loc (tile d i) ↦{fullShare} t) ∗ (sR).view.loc (tile d i) ↦{fullShare} f0)
      ⊢ iprop((∀ v, ((sT).view.loc (tile d i) ↦{fullShare} t) -∗ ((sR).view.loc (tile d i) ↦{fullShare} decay b t) -∗ wp frame (wpE defs 𝒱 (tile d i) none) Set.univ (kk v) Q)
        -∗ wp frame (wpE defs 𝒱 (tile d i) none) Set.univ
          (Scf.Loop.for k0_t1_loop k0_t1_ok 0#32 (k0_t1_body i hV harg2 tV harg3 pV harg4 oV harg5 sP harg6 sT harg7 sR harg8 sB harg9
            cc0_scratch4 cc0_scratch5 cc0_scratch6 cc0_scratch7 cc0_scoped0 cc0_scoped1 (fun _ => b)) >>= kk) Q) := by
  iintro ⟨Ht, Hr⟩ Hk
  iapply (Scf.wp_for_bind frame (wpE defs 𝒱 (tile d i) none) Set.univ _ _ _ _ _ _ (invDecay d i b t) ?body) $$ [Ht Hr]
  case body =>
    exact decay_trip 𝒱 d i b t harg2 harg3 harg4 harg5 harg6 harg7 harg8 harg9
  · unfold invDecay
    isplitl [Ht]; · iexact Ht
    iexists f0
    isplitr; · ipureintro; intro s hs; omega
    iexact Hr
  iintro %v HI
  unfold invDecay
  icases HI with ⟨Ht, %f, %hf, Hr⟩
  have hfd : f = decay b t := funext fun s => hf s (s 0).isLt
  rw [hfd]
  iapply Hk $$ Ht Hr

end Cert.Proof.KIdeal
-- ==== Proof.Copies.lean ====
/-
  A tile's copies: a copy started on a semaphore of the tile's own and the wait for it, with what lands.
-/
module

public import proofs.«01_k».proof.Proof.Decay

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

variable (𝒱 : Variants) {defs : Defs nD τ sig (Elt F) Λ₀} (d : Dev nD) (i : grid0.Coords)

/-- A copy's delivery: the destination reading what the source read, and the source's elements back. -/
def landed {sp sp' : Space} {s : Shape} {e : EltTy} (src : Memref sig .scVector sp s e) (dst : Memref sig .scVector sp' s e) (q : PosShare TreeShare)
    (fs : Buf (Elt F) (src.view.loc (tile d i))) : sProp 𝕄 :=
  iprop((∃ g, ⌜dst.view.read (Elt F) g = src.view.read (Elt F) fs⌝ ∗ (dst.view.loc (tile d i) ↦[dst.view.set]{fullShare} g)) ∗ (src.view.loc (tile d i) ↦[src.view.set]{q} fs))

/-- A copy on its way on semaphore `sm`. -/
def flight {sp sp' : Space} {s : Shape} {e : EltTy} (sm : DmaSem sig) (src : Memref sig .scVector sp s e) (dst : Memref sig .scVector sp' s e) (q : PosShare TreeShare)
    (fs : Buf (Elt F) (src.view.loc (tile d i))) : sProp 𝕄 :=
  Transfers.Flight countersEmb (tile d i) (.dma sm) (none : HIx 1) (dst.view.amount (SemLoc.dma sm)) (landed d i src dst q fs)

theorem wp_issue {α : Type} {Q : α → sProp 𝕄} {sp sp' : Space} {s : Shape} {e : EltTy} {sm : DmaSem sig} (src : Memref sig .scVector sp s e) (dst : Memref sig .scVector sp' s e)
    (hs : 0 < s.numel) {q : PosShare TreeShare} {fs : Buf (Elt F) (src.view.loc (tile d i))} {fd : Buf (Elt F) (dst.view.loc (tile d i))}
    {hsrc : src.view.WordExact} {hdst : dst.view.WordExact} {hsem : DmaTarget.Typed (nD := nD) sp (SemLoc.dma sm) (DmaTarget.here (p := (tile d i).2) dst)}
    {k : PUnit → Prog (TpuEff nD τ sig (Elt F) Λ₀ (.scVector ((i 0).castLE hcore0) ((i 1).castLE hsub0))) α} :
    iprop((src.view.loc (tile d i) ↦[src.view.set]{q} fs) ∗ (dst.view.loc (tile d i) ↦[dst.view.set]{fullShare} fd) ∗ semVal (tile d i, SemLoc.dma sm) 0)
      ⊢ iprop((flight d i sm src dst q fs -∗ wp frame (wpE defs 𝒱 (tile d i) none) Set.univ (k ⟨⟩) Q)
        -∗ wp frame (wpE defs 𝒱 (tile d i) none) Set.univ (.op (.enqueueDma src (.here dst) (.dma sm) hsrc hdst hsem) k) Q) := by
  iintro ⟨Hs, Hd, Hv⟩ Hk
  iapply (Transfers.wp_dmaLocal countersEmb 𝒱 (tile d i) none (none : HIx 1) (dst.view.amount (SemLoc.dma sm)) rfl (View.amount_pos _ _ hs) (Finset.Subset.refl _)) $$ [Hs Hd Hv]
  · isplitl [Hs]; · iexact Hs
    isplitl [Hd]; · iexact Hd
    iexact Hv
  iintro Hf
  iapply Hk
  unfold flight
  iapply (Transfers.Flight_mono countersEmb (tile d i) ?_) $$ Hf
  unfold landed
  iintro ⟨Hd, Hs⟩
  isplitl [Hd]
  · iexists _
    isplitr
    rotate_left
    · iexact Hd
    ipureintro
    exact View.read_write_univ _ _
  · iexact Hs

/-- The same with the program's two ends named by equal memrefs. -/
theorem wp_issue_eq {α : Type} {Q : α → sProp 𝕄} {sp sp' : Space} {s : Shape} {e : EltTy} {sm : DmaSem sig} (src : Memref sig .scVector sp s e) (dst : Memref sig .scVector sp' s e)
    {src' : Memref sig .scVector sp s e} {dst' : Memref sig .scVector sp' s e} (h1 : src' = src) (h2 : dst' = dst)
    (hs : 0 < s.numel) {q : PosShare TreeShare} {fs : Buf (Elt F) (src.view.loc (tile d i))} {fd : Buf (Elt F) (dst.view.loc (tile d i))}
    {hsrc : src'.view.WordExact} {hdst : dst'.view.WordExact} {hsem : DmaTarget.Typed (nD := nD) sp (SemLoc.dma sm) (DmaTarget.here (p := (tile d i).2) dst')}
    {k : PUnit → Prog (TpuEff nD τ sig (Elt F) Λ₀ (.scVector ((i 0).castLE hcore0) ((i 1).castLE hsub0))) α} :
    iprop((src.view.loc (tile d i) ↦[src.view.set]{q} fs) ∗ (dst.view.loc (tile d i) ↦[dst.view.set]{fullShare} fd) ∗ semVal (tile d i, SemLoc.dma sm) 0)
      ⊢ iprop((flight d i sm src dst q fs -∗ wp frame (wpE defs 𝒱 (tile d i) none) Set.univ (k ⟨⟩) Q)
        -∗ wp frame (wpE defs 𝒱 (tile d i) none) Set.univ (.op (.enqueueDma src' (.here dst') (.dma sm) hsrc hdst hsem) k) Q) := by
  subst h1; subst h2
  exact wp_issue 𝒱 d i _ _ hs

theorem wp_await {α : Type} {Q : α → sProp 𝕄} {sp sp' : Space} {s : Shape} {e : EltTy} {sm : DmaSem sig} (src : Memref sig .scVector sp s e) (dst : Memref sig .scVector sp' s e)
    {spw spw' : Space} (srcw : Memref sig .scVector spw s e) (dstw : Memref sig .scVector spw' s e) (hN : dstw.view.dmaCredit = dst.view.amount (SemLoc.dma sm))
    {q : PosShare TreeShare} {fs : Buf (Elt F) (src.view.loc (tile d i))}
    {hsrc : srcw.view.WordExact} {hdst : dstw.view.WordExact}
    {O : CellTallies nD τ sig (HIx 1)} {W : Waits sig (HIx 1)}
    {k : PUnit → Prog (TpuEff nD τ sig (Elt F) Λ₀ (.scVector ((i 0).castLE hcore0) ((i 1).castLE hsub0))) α} :
    iprop(flight d i sm src dst q fs ∗ Transfers.MayWaits (tile d i) (none : HIx 1) O ∗ (∃ W', ⌜∀ p ∈ W', p ∈ W ∨ p.2 = none⌝ ∗ owes (tile d i) O W'))
      ⊢ iprop(((landed d i src dst q fs ∗ semVal (tile d i, SemLoc.dma sm) 0 ∗ (∃ W', ⌜∀ p ∈ W', p ∈ W ∨ p.2 = none⌝ ∗ owes (tile d i) O W'))
          -∗ wp frame (wpE defs 𝒱 (tile d i) none) Set.univ (k ⟨⟩) Q)
        -∗ wp frame (wpE defs 𝒱 (tile d i) none) Set.univ (.op (.waitDma2 sm srcw dstw hsrc hdst) k) Q) := by
  iintro ⟨Hf, Hmw, %W', %hW, HO⟩ Hk
  unfold flight
  iapply (Transfers.wp_waitLocalO countersEmb 𝒱 (tile d i) none (none : HIx 1) hN) $$ [Hf Hmw HO]
  · isplitl [Hf]; · iexact Hf
    isplitl [HO]; · iexact HO
    iapply (Transfers.MayWaits.elim (SemLoc.dma sm)) $$ Hmw
  iintro ⟨HD, Hv, HO⟩
  iapply Hk
  isplitl [HD]; · iexact HD
  isplitl [Hv]; · iexact Hv
  iexists _
  isplitr
  rotate_left
  · iexact HO
  ipureintro
  intro p hp
  rcases Finset.mem_insert.mp hp with hp | hp
  · exact .inr (hp ▸ rfl)
  · exact hW p hp

/-! ## The inner loop -/

theorem read_sR (rv : Vec F S512 .f32) : ((sR).access (.whole S512)).read (Elt F) rv = rv := by
  funext s
  show rv _ = rv s
  refine congrArg rv (funext fun a => Fin.ext ?_)
  match a with
  | ⟨0, _⟩ => show 0 + 1 * (s 0).val = (s 0).val; omega

/-- Before trip `k` of the inner loop. -/
def invPanel (e : V16 F) (rv : Vec F S512 .f32) (H : ℕ → Row F) (k2 : Fin k0_t2_loop.trips) (k : ℕ) (acc : Carry F) : sProp 𝕄 :=
  iprop(⌜acc = pack (accs e rv H (256 * k2.val + 8 * k))⌝ ∗ ((sR).view.loc (tile d i) ↦{fullShare} rv)
    ∗ ∃ f, ⌜(halfK sB k2).view.read (Elt F) f = panelAt e rv H k2.val (8 * k)⌝ ∗ ((halfK sB k2).view.loc (tile d i) ↦[(halfK sB k2).view.set]{fullShare} f))

/-- `wp_trip` at a scratch held whole. -/
theorem wp_trip' {Q : Carry F → sProp 𝕄} (m : Memref sig .scVector .vmem S512 .f32) (arg9 : Memref sig .scVector .vmem S2x256x128 .f32) (e : V16 F) (rv : Vec F S512 .f32) (H : ℕ → Row F)
    (k2 : Fin k0_t2_loop.trips) (k0_t3 : Fin k0_t3_loop.trips) {f8 : Buf (Elt F) (m.view.loc (tile d i))} (h8 : (m.access (.whole S512)).read (Elt F) f8 = rv)
    {f : Buf (Elt F) ((halfK arg9 k2).view.loc (tile d i))}
    (hf : (halfK arg9 k2).view.read (Elt F) f = panelAt e rv H k2.val (8 * k0_t3.val)) :
    iprop((m.view.loc (tile d i) ↦{fullShare} f8) ∗ ((halfK arg9 k2).view.loc (tile d i) ↦[(halfK arg9 k2).view.set]{fullShare} f))
      ⊢ iprop((∀ f', ⌜(halfK arg9 k2).view.read (Elt F) f' = panelAt e rv H k2.val (8 * (k0_t3.val + 1))⌝
            -∗ (m.view.loc (tile d i) ↦{fullShare} f8) -∗ ((halfK arg9 k2).view.loc (tile d i) ↦[(halfK arg9 k2).view.set]{fullShare} f')
            -∗ Q (pack (accs e rv H (256 * k2.val + 8 * (k0_t3.val + 1)))))
          -∗ wp frame (wpE defs 𝒱 (tile d i) none) Set.univ
              (tripRows i m arg9 e k2 (Scf.iv 0#32 1#32 k2) k0_t3 (accs e rv H (256 * k2.val + 8 * k0_t3.val))) Q) :=
  wp_trip 𝒱 d i m arg9 e rv H k2 k0_t3 (S8 := Finset.univ) (Finset.subset_univ _) h8 (Finset.Subset.refl _) hf

theorem wp_inner {α : Type} {Q : α → sProp 𝕄} (e : V16 F) (rv : Vec F S512 .f32) (H : ℕ → Row F) (k2 : Fin k0_t2_loop.trips)
    (kk : Carry F → Prog (TpuEff nD τ sig (Elt F) Λ₀ (.scVector ((i 0).castLE hcore0) ((i 1).castLE hsub0))) α) (harg2 harg3 harg4 harg5 harg6 harg7 harg8 harg9)
    (f : Buf (Elt F) ((halfK sB k2).view.loc (tile d i))) (hf : (halfK sB k2).view.read (Elt F) f = panelAt e rv H k2.val 0) :
    iprop(((sR).view.loc (tile d i) ↦{fullShare} rv) ∗ ((halfK sB k2).view.loc (tile d i) ↦[(halfK sB k2).view.set]{fullShare} f))
      ⊢ iprop((∀ f', ⌜(halfK sB k2).view.read (Elt F) f' = panelAt e rv H k2.val 256⌝ -∗ ((sR).view.loc (tile d i) ↦{fullShare} rv)
          -∗ ((halfK sB k2).view.loc (tile d i) ↦[(halfK sB k2).view.set]{fullShare} f')
          -∗ wp frame (wpE defs 𝒱 (tile d i) none) Set.univ (kk (pack (accs e rv H (256 * k2.val + 256)))) Q)
        -∗ wp frame (wpE defs 𝒱 (tile d i) none) Set.univ
          (Scf.Loop.for k0_t3_loop k0_t3_ok (pack (accs e rv H (256 * k2.val))) (k0_t3_body i hV harg2 tV harg3 pV harg4 oV harg5 sP harg6 sT harg7 sR harg8 sB harg9
            cc0_scratch4 cc0_scratch5 cc0_scratch6 cc0_scratch7 cc0_scoped0 cc0_scoped1 e k2 (Scf.iv 0#32 1#32 k2)) >>= kk) Q) := by
  iintro ⟨Hr, Hf⟩ Hk
  iapply (Scf.wp_for_bind frame (wpE defs 𝒱 (tile d i) none) Set.univ _ _ _ _ _ _ (invPanel d i e rv H k2) ?body) $$ [Hr Hf]
  case body =>
    intro k acc
    unfold invPanel
    iintro ⟨%hacc, Hr, %f, %hf, Hf⟩
    rw [hacc, trip_eq]
    iapply (wp_trip' 𝒱 d i sR sB e rv H k2 k (read_sR rv) hf) $$ [Hr Hf]
    · isplitl [Hr]; · iexact Hr
      iexact Hf
    iintro %f' %hf' Hr Hf
    isplitr; · ipureintro; rfl
    isplitl [Hr]; · iexact Hr
    iexists f'
    isplitr; · ipureintro; exact hf'
    iexact Hf
  · unfold invPanel
    isplitr; · ipureintro; rfl
    isplitl [Hr]; · iexact Hr
    iexists f
    isplitr; · ipureintro; exact hf
    iexact Hf
  iintro %acc HI
  unfold invPanel
  icases HI with ⟨%hacc, Hr, %f', %hf', Hf⟩
  rw [hacc]
  iapply Hk $$ %f' %hf' Hr Hf

end Cert.Proof.KIdeal
-- ==== Proof.Slices.lean ====
/-
  The slices a tile copies: its 256-row halves of one batch's columns in the input and in the output, and its row of times.
-/
module

public import proofs.«01_k».proof.Proof.Copies

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-- The batch a tile works on. -/
def tileB (i : grid0.Coords) : ℕ := (2 * (i 1).val + (i 0).val) / 4
/-- The first column a tile works on. -/
def tileD (i : grid0.Coords) : ℕ := ((2 * (i 1).val + (i 0).val) % 4) * 128

theorem tileB_lt : ∀ i : grid0.Coords, tileB i < 8 := by decide +kernel
theorem tileD_le : ∀ i : grid0.Coords, tileD i ≤ 384 := by decide +kernel

/-- Where half `k` of a tile's slice begins. -/
def tileOff (i : grid0.Coords) (k : Fin k0_t2_loop.trips) : Fin 3 → ℕ := ![tileB i, 256 * k.val, tileD i]

/-- The two halves. -/
abbrev k0 : Fin k0_t2_loop.trips := ⟨0, by decide⟩
abbrev k1 : Fin k0_t2_loop.trips := ⟨1, by decide⟩

theorem off1_eq : ∀ i, k0_off1 i = tileOff i k0 := by decide +kernel
theorem off2_eq : ∀ i, k0_off2 i = tileOff i k1 := by decide +kernel
theorem off80_eq : ∀ i, k0_off80 i = tileOff i k0 := by decide +kernel
theorem off81_eq : ∀ i, k0_off81 i = tileOff i k1 := by decide +kernel
theorem off3_eq : ∀ i, k0_off3 i = ![tileB i, 0] := by decide +kernel

theorem tileOff_inb (i : grid0.Coords) (k : Fin k0_t2_loop.trips) : ∀ a, tileOff i k a + S1x256x128.size a ≤ S8x512x768.size a := by
  decide +kernel +revert
theorem tOff_inb (i : grid0.Coords) : ∀ a, (![tileB i, 0] : Fin 2 → ℕ) a + S1x512.size a ≤ S8x512.size a := by
  decide +kernel +revert

/-- A 256-row block of 128 columns of one batch. -/
abbrev colSlice {sp : Space} (m : Memref sig .scVector sp S8x512x768 .f32) (o : Fin 3 → ℕ) (ho : ∀ a, o a + S1x256x128.size a ≤ S8x512x768.size a) :
    Memref sig .scVector sp S256x128 .f32 :=
  (m.slice (Rect.unit (s := S8x512x768) o S1x256x128.size ho) (fun _ => rfl)).squeeze S256x128 squeezes_S1x256x128_S256x128

theorem colSlice_congr {sp : Space} (m : Memref sig .scVector sp S8x512x768 .f32) {o o' : Fin 3 → ℕ} (ho : ∀ a, o a + S1x256x128.size a ≤ S8x512x768.size a)
    (ho' : ∀ a, o' a + S1x256x128.size a ≤ S8x512x768.size a) (h : o = o') : colSlice m o ho = colSlice m o' ho' := by
  subst h; rfl

/-- Half `k` of the tile's slice. -/
abbrev colK {sp : Space} (m : Memref sig .scVector sp S8x512x768 .f32) (i : grid0.Coords) (k : Fin k0_t2_loop.trips) : Memref sig .scVector sp S256x128 .f32 :=
  colSlice m (tileOff i k) (tileOff_inb i k)

/-- One row of the times. -/
abbrev timeSlice {sp : Space} (m : Memref sig .scVector sp S8x512 .f32) (o : Fin 2 → ℕ) (ho : ∀ a, o a + S1x512.size a ≤ S8x512.size a) :
    Memref sig .scVector sp S512 .f32 :=
  (m.slice (Rect.unit (s := S8x512) o S1x512.size ho) (fun _ => rfl)).squeeze S512 squeezes_S1x512_S512

theorem timeSlice_congr {sp : Space} (m : Memref sig .scVector sp S8x512 .f32) {o o' : Fin 2 → ℕ} (ho : ∀ a, o a + S1x512.size a ≤ S8x512.size a)
    (ho' : ∀ a, o' a + S1x512.size a ≤ S8x512.size a) (h : o = o') : timeSlice m o ho = timeSlice m o' ho' := by
  subst h; rfl

abbrev timeK {sp : Space} (m : Memref sig .scVector sp S8x512 .f32) (i : grid0.Coords) : Memref sig .scVector sp S512 .f32 :=
  timeSlice m ![tileB i, 0] (tOff_inb i)

/-! ## What they read -/

/-- Entry `(b, g, x)` of a batch of sequences. -/
def entry (h : Vec F S8x512x768 .f32) (b g x : ℕ) : F .f32 :=
  h (ix3 ⟨b % 8, Nat.mod_lt _ (by decide)⟩ ⟨g % 512, Nat.mod_lt _ (by decide)⟩ ⟨x % 768, Nat.mod_lt _ (by decide)⟩)

/-- A tile's rows of the input, by chunks. -/
def hRows (h : Vec F S8x512x768 .f32) (i : grid0.Coords) (g : ℕ) : Row F :=
  fun c x => entry h (tileB i) g (tileD i + 16 * c.val + (x 0).val)

/-- A tile's times. -/
def tRow (t : Vec F S8x512 .f32) (i : grid0.Coords) : Vec F S512 .f32 :=
  fun s => t (ix2 ⟨tileB i, tileB_lt i⟩ (s 0))

theorem atCol_hRows (h : Vec F S8x512x768 .f32) (i : grid0.Coords) (g : ℕ) (y : Fin 128) :
    atCol (hRows h i g) y = entry h (tileB i) g (tileD i + y.val) := by
  unfold atCol hRows
  refine congrArg (entry h (tileB i) g) ?_
  show tileD i + 16 * (y.val / 16) + y.val % 16 = tileD i + y.val
  omega

theorem squeeze_read {sp : Space} (m : Memref sig .scVector sp S8x512x768 .f32) (f : m.view.ty.Contents (Elt F)) (o : Fin 3 → ℕ)
    (ho : ∀ a, o a + S1x256x128.size a ≤ S8x512x768.size a) (y : S256x128.Idx) :
    (colSlice m o ho).view.read (Elt F) f y
      = (m.view.slice (Rect.unit (s := S8x512x768) o S1x256x128.size ho)).read (Elt F) f (Fin.cons ⟨0, Nat.one_pos⟩ y) :=
  shapeCast_dropUnit_apply (n := 2) ![256, 128] ((m.view.slice (Rect.unit (s := S8x512x768) o S1x256x128.size ho)).read (Elt F) f)
    (show S1x256x128.ShapeCasts S256x128 by decide) y

theorem time_read {sp : Space} (m : Memref sig .scVector sp S8x512 .f32) (f : m.view.ty.Contents (Elt F)) (o : Fin 2 → ℕ)
    (ho : ∀ a, o a + S1x512.size a ≤ S8x512.size a) (y : S512.Idx) :
    (timeSlice m o ho).view.read (Elt F) f y
      = (m.view.slice (Rect.unit (s := S8x512) o S1x512.size ho)).read (Elt F) f (Fin.cons ⟨0, Nat.one_pos⟩ y) :=
  shapeCast_dropUnit_apply (n := 1) ![512] ((m.view.slice (Rect.unit (s := S8x512) o S1x512.size ho)).read (Elt F) f)
    (show S1x512.ShapeCasts S512 by decide) y

/-- The input's slice is the panel with no row rewritten. -/
theorem panel_start (e : V16 F) (rv : Vec F S512 .f32) (h : Vec F S8x512x768 .f32) (i : grid0.Coords) (k : Fin k0_t2_loop.trips) :
    (colK hV i k).view.read (Elt F) h = panelAt e rv (hRows h i) k.val 0 := by
  funext y
  have hy0 : (y 0).val < 256 := (y 0).isLt
  have hy1 : (y 1).val < 128 := (y 1).isLt
  have hk : k.val < 2 := k.isLt
  have hB := tileB_lt i
  have hD := tileD_le i
  refine (squeeze_read hV h _ _ y).trans (Eq.trans ?_ ((if_neg (Nat.not_lt_zero _)).trans (atCol_hRows h i (256 * k.val + (y 0).val) (y 1))).symm)
  refine congrArg h (funext fun a => Fin.ext ?_)
  match a with
  | ⟨0, _⟩ => show tileB i + 1 * 0 = tileB i % 8; omega
  | ⟨1, _⟩ => show 256 * k.val + 1 * (y 0).val = (256 * k.val + (y 0).val) % 512; omega
  | ⟨2, _⟩ => show tileD i + 1 * (y 1).val = (tileD i + (y 1).val) % 768; omega

theorem time_eq (t : Vec F S8x512 .f32) (i : grid0.Coords) : (timeK tV i).view.read (Elt F) t = tRow t i := by
  funext y
  rw [time_read]
  unfold tRow
  refine congrArg t (funext fun a => Fin.ext ?_)
  match a with
  | ⟨0, _⟩ => show tileB i + 1 * 0 = tileB i; omega
  | ⟨1, _⟩ => show 0 + 1 * (y 0).val = (y 0).val; omega

end Cert.Proof.KIdeal
-- ==== Proof.Tile.lean ====
/-
  One tile's kernel: the copies in, the decays, the two halves in turn with the carries running through, the copies out.
-/
module

public import proofs.«01_k».proof.Proof.Slices

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

variable (𝒱 : Variants) {defs : Defs nD τ sig (Elt F) Λ₀} (d : Dev nD) (i : grid0.Coords)

theorem pts_whole (b : Ref sig .scVector) (q : PosShare TreeShare) (f : Buf (Elt F) ((Memref.whole b).view.loc (tile d i))) :
    ((Memref.whole b).view.loc (tile d i) ↦[(Memref.whole b).view.set]{q} f : sProp 𝕄) = ((Memref.whole b).view.loc (tile d i) ↦{q} f) := by
  simp only [Memref.view_whole, View.set_whole]

/-- The tile's promise to wait for nothing but its own copies. -/
def idle (O : CellTallies nD τ sig (HIx 1)) (W : Waits sig (HIx 1)) : sProp 𝕄 :=
  iprop(∃ W', ⌜∀ p ∈ W', p ∈ W ∨ p.2 = none⌝ ∗ owes (tile d i) O W')

theorem pay318_toNat : ∀ x, (k0_pay318 x).toNat = 1 := by decide +kernel
theorem pay319_toNat : ∀ x, (k0_pay319 x).toNat = 2 := by decide +kernel
theorem chk1_holds : k0_chk1 k0_pay318 := by decide +kernel
theorem chk2_holds : k0_chk2 k0_pay319 := by decide +kernel

theorem gather_at (m : Memref sig .scVector .vmem S16 .f32) (f : Buf (Elt F) (m.view.loc (tile d i))) (w : IVec S16 32) (h : ∀ a x, ((![w] : Fin 1 → IVec S16 32) a x).toNat < S16.size a)
    (n : Fin 16) (hw : ∀ x, (w x).toNat = n.val) (p : Vec F S16 .f32) (hp : (m.access (.whole S16)).read (Elt F) f = p) :
    loadIdx ((m.access (.whole S16)).read (Elt F) f) ![w] h = fun _ => p (ix1 n) := by
  rw [hp]
  funext x
  refine congrArg p (funext fun a => Fin.ext ?_)
  match a with
  | ⟨0, _⟩ => exact hw x

theorem read_sP (f : Vec F S16 .f32) : ((sP).access (.whole S16)).read (Elt F) f = f := by
  funext s
  show f _ = f s
  refine congrArg f (funext fun a => Fin.ext ?_)
  match a with
  | ⟨0, _⟩ => show 0 + 1 * (s 0).val = (s 0).val; omega

set_option maxHeartbeats 2000000 in
theorem wp_part30 {Q : (Σ' (_ : Vec F S16 .f32) (_ : FVec F S16 .f32), BitVec 32) → sProp 𝕄} (h : Vec F S8x512x768 .f32) (p : Vec F S16 .f32) (t : Vec F S8x512 .f32)
    (qp qt : PosShare TreeShare) (fB0 fB1 : Vec F S2x256x128 .f32) (fP : Vec F S16 .f32) (fT fR : Vec F S512 .f32) (O : CellTallies nD τ sig (HIx 1)) (W : Waits sig (HIx 1))
    (harg2 harg3 harg4 harg5 harg6 harg7 harg8 harg9) :
    iprop(Transfers.MayWaits (tile d i) (none : HIx 1) O ∗ idle d i O W
        ∗ ((colK hV i k0).view.loc (tile d i) ↦[(colK hV i k0).view.set]{fullShare} h) ∗ ((colK hV i k1).view.loc (tile d i) ↦[(colK hV i k1).view.set]{fullShare} h)
        ∗ ((halfK sB k0).view.loc (tile d i) ↦[(halfK sB k0).view.set]{fullShare} fB0) ∗ ((halfK sB k1).view.loc (tile d i) ↦[(halfK sB k1).view.set]{fullShare} fB1)
        ∗ ((pV).view.loc (tile d i) ↦{qp} p) ∗ ((sP).view.loc (tile d i) ↦{fullShare} fP)
        ∗ ((timeK tV i).view.loc (tile d i) ↦[(timeK tV i).view.set]{qt} t) ∗ ((sT).view.loc (tile d i) ↦{fullShare} fT) ∗ ((sR).view.loc (tile d i) ↦{fullShare} fR)
        ∗ semVal (tile d i, SemLoc.dma cc0_scratch4.sem) 0 ∗ semVal (tile d i, SemLoc.dma cc0_scratch5.sem) 0
        ∗ semVal (tile d i, SemLoc.dma cc0_scoped0.sem) 0 ∗ semVal (tile d i, SemLoc.dma cc0_scoped1.sem) 0)
      ⊢ iprop((idle d i O W
          -∗ flight d i cc0_scratch4.sem (colK hV i k0) (halfK sB k0) fullShare h -∗ flight d i cc0_scratch5.sem (colK hV i k1) (halfK sB k1) fullShare h
          -∗ ((pV).view.loc (tile d i) ↦{qp} p) -∗ ((sP).view.loc (tile d i) ↦{fullShare} p)
          -∗ ((timeK tV i).view.loc (tile d i) ↦[(timeK tV i).view.set]{qt} t) -∗ ((sT).view.loc (tile d i) ↦{fullShare} tRow t i)
          -∗ ((sR).view.loc (tile d i) ↦{fullShare} decay (p (ix1 2)) (tRow t i))
          -∗ semVal (tile d i, SemLoc.dma cc0_scoped0.sem) 0 -∗ semVal (tile d i, SemLoc.dma cc0_scoped1.sem) 0
          -∗ Q ⟨fun _ => p (ix1 1), zero16, 0#32⟩)
        -∗ wp frame (wpE defs 𝒱 (tile d i) none) Set.univ
          (k0_part30 i hV harg2 tV harg3 pV harg4 oV harg5 sP harg6 sT harg7 sR harg8 sB harg9
            cc0_scratch4 cc0_scratch5 cc0_scratch6 cc0_scratch7 cc0_scoped0 cc0_scoped1) Q) := by
  have e1 : colSlice hV (k0_off1 i) (k0_off1_inb i) = colK hV i k0 := colSlice_congr hV _ _ (off1_eq i)
  have e2 : colSlice hV (k0_off2 i) (k0_off2_inb i) = colK hV i k1 := colSlice_congr hV _ _ (off2_eq i)
  have e3 : timeSlice tV (k0_off3 i) (k0_off3_inb i) = timeK tV i := timeSlice_congr tV _ _ (off3_eq i)
  rw [k0_part30_eq_skeleton]
  unfold k0_part30_skel
  simp only [Prog.lift, Prog.bind_op, Prog.bind_ret, Prog.pure_eq_ret]
  iintro ⟨#Hmw, HO, Hh0, Hh1, HB0, HB1, Hp, HP, Ht, HT, HR, H4, H5, H6, H7⟩ Hk
  iapply (wp_issue_eq 𝒱 d i (colK hV i k0) (halfK sB k0) e1 rfl (by decide)) $$ [Hh0 HB0 H4]
  · isplitl [Hh0]; · iexact Hh0
    isplitl [HB0]; · iexact HB0
    iexact H4
  iintro HF0
  iapply (wp_issue_eq 𝒱 d i (colK hV i k1) (halfK sB k1) e2 rfl (by decide)) $$ [Hh1 HB1 H5]
  · isplitl [Hh1]; · iexact Hh1
    isplitl [HB1]; · iexact HB1
    iexact H5
  iintro HF1
  ihave Hp := (Entails.of_eq (pts_whole (F := F) d i main_v4_scv qp p).symm) $$ Hp
  ihave HP := (Entails.of_eq (pts_whole (F := F) d i cc0_scratch0 fullShare fP).symm) $$ HP
  iapply (wp_issue 𝒱 d i pV sP (by decide)) $$ [Hp HP H6]
  · isplitl [Hp]; · iexact Hp
    isplitl [HP]; · iexact HP
    iexact H6
  iintro HF2
  unfold idle
  iapply (wp_await 𝒱 d i pV sP pV sP rfl) $$ [HF2 HO]
  · isplitl [HF2]; · iexact HF2
    isplitr; · iexact Hmw
    iexact HO
  iintro ⟨HL, H6, HO⟩
  unfold landed
  icases HL with ⟨⟨%gP, %hgP, HP⟩, Hp⟩
  have hgP' : gP = p := hgP
  subst hgP'
  ihave HT := (Entails.of_eq (pts_whole (F := F) d i cc0_scratch1 fullShare fT).symm) $$ HT
  iapply (wp_issue_eq 𝒱 d i (timeK tV i) sT e3 rfl (by decide)) $$ [Ht HT H7]
  · isplitl [Ht]; · iexact Ht
    isplitl [HT]; · iexact HT
    iexact H7
  iintro HF3
  iapply (wp_await 𝒱 d i (timeK tV i) sT _ _ rfl) $$ [HF3 HO]
  · isplitl [HF3]; · iexact HF3
    isplitr; · iexact Hmw
    iexact HO
  iintro ⟨HL, H7, HO⟩
  unfold landed
  icases HL with ⟨⟨%gT, %hgT, HT⟩, Ht⟩
  have hgT' : gT = tRow t i := Eq.trans hgT (time_eq t i)
  subst hgT'
  ihave Hp := (Entails.of_eq (pts_whole (F := F) d i main_v4_scv qp gP)) $$ Hp
  ihave HP := (Entails.of_eq (pts_whole (F := F) d i cc0_scratch0 fullShare gP)) $$ HP
  ihave HT := (Entails.of_eq (pts_whole (F := F) d i cc0_scratch1 fullShare (tRow t i))) $$ HT
  rw [wp_assume_of _ _ _ _ chk1_holds]
  iapply (wp_gather 𝒱 d i sP) $$ HP; iintro HP
  rw [wp_assume_of _ _ _ _ chk2_holds]
  iapply (wp_gather 𝒱 d i sP) $$ HP; iintro HP
  rw [gather_at d i sP gP k0_pay318 _ 1 pay318_toNat gP (read_sP gP), gather_at d i sP gP k0_pay319 _ 2 pay319_toNat gP (read_sP gP)]
  iapply (wp_decay 𝒱 d i (gP (ix1 2)) (tRow t i) _ harg2 harg3 harg4 harg5 harg6 harg7 harg8 harg9 fR) $$ [HT HR]
  · isplitl [HT]; · iexact HT
    iexact HR
  iintro %v HT HR
  rw [wp_ret, show (k0_pay322 : FVec F S16 .f32) = zero16 from rfl]; imodintro
  iapply Hk $$ HO HF0 HF1 Hp HP Ht HT HR H6 H7

/-! ## The two halves -/

/-- A half still to be worked: its rows on their way in. -/
def ahead (s4 s6 : DmaSem sig) (h o : Vec F S8x512x768 .f32) (j : Fin k0_t2_loop.trips) : sProp 𝕄 :=
  iprop(flight d i s4 (colK hV i j) (halfK sB j) fullShare h ∗ semVal (tile d i, SemLoc.dma s6) 0
    ∗ ((colK oV i j).view.loc (tile d i) ↦[(colK oV i j).view.set]{fullShare} o))

/-- A half worked: its results on their way out. -/
def behind (s4 s6 : DmaSem sig) (e : V16 F) (rv : Vec F S512 .f32) (h : Vec F S8x512x768 .f32) (j : Fin k0_t2_loop.trips) : sProp 𝕄 :=
  iprop(semVal (tile d i, SemLoc.dma s4) 0 ∗ ((colK hV i j).view.loc (tile d i) ↦[(colK hV i j).view.set]{fullShare} h)
    ∗ ∃ f, ⌜(halfK sB j).view.read (Elt F) f = panelAt e rv (hRows h i) j.val 256⌝ ∗ flight d i s6 (halfK sB j) (colK oV i j) fullShare f)

/-- Before trip `k` of the outer loop. -/
def invHalf (e : V16 F) (rv : Vec F S512 .f32) (h o : Vec F S8x512x768 .f32) (O : CellTallies nD τ sig (HIx 1)) (W : Waits sig (HIx 1)) (k : ℕ) (acc : Carry F) : sProp 𝕄 :=
  iprop(⌜acc = pack (accs e rv (hRows h i) (256 * k))⌝ ∗ Transfers.MayWaits (tile d i) (none : HIx 1) O ∗ idle d i O W ∗ ((sR).view.loc (tile d i) ↦{fullShare} rv)
    ∗ (if k = 0 then ahead d i cc0_scratch4.sem cc0_scratch6.sem h o k0 else behind d i cc0_scratch4.sem cc0_scratch6.sem e rv h k0)
    ∗ (if k ≤ 1 then ahead d i cc0_scratch5.sem cc0_scratch7.sem h o k1 else behind d i cc0_scratch5.sem cc0_scratch7.sem e rv h k1))

theorem conds0 : k0_cond1 k0 = 1#1 ∧ ¬ k0_cond2 k0 = 1#1 ∧ k0_cond3 k0 = 1#1 ∧ ¬ k0_cond4 k0 = 1#1 := by decide +kernel
theorem conds1 : ¬ k0_cond1 k1 = 1#1 ∧ k0_cond2 k1 = 1#1 ∧ ¬ k0_cond3 k1 = 1#1 ∧ k0_cond4 k1 = 1#1 := by decide +kernel

set_option maxHeartbeats 2000000 in
theorem half_trip0 (e : V16 F) (rv : Vec F S512 .f32) (h o : Vec F S8x512x768 .f32) (O : CellTallies nD τ sig (HIx 1)) (W : Waits sig (HIx 1))
    (harg2 harg3 harg4 harg5 harg6 harg7 harg8 harg9) (acc : Carry F) :
    invHalf d i e rv h o O W 0 acc ⊢ wp frame (wpE defs 𝒱 (tile d i) none) Set.univ
      (k0_t2_body i hV harg2 tV harg3 pV harg4 oV harg5 sP harg6 sT harg7 sR harg8 sB harg9
            cc0_scratch4 cc0_scratch5 cc0_scratch6 cc0_scratch7 cc0_scoped0 cc0_scoped1 e 0#32 k0 acc) (invHalf d i e rv h o O W 1) := by
  obtain ⟨c1, c2, c3, c4⟩ := conds0
  have e1 : colSlice oV (k0_off80 i) (k0_off80_inb i k0 c3) = colK oV i k0 := colSlice_congr oV _ _ (off80_eq i)
  unfold invHalf k0_t2_body
  rw [if_pos rfl, if_pos (Nat.zero_le 1), if_neg Nat.one_ne_zero, if_pos le_rfl]
  unfold idle
  simp only [dif_pos c1, dif_neg c2, dif_pos c3, dif_neg c4, Prog.lift, Prog.bind_op, Prog.bind_ret, Prog.pure_eq_ret]
  iintro ⟨%hacc, #Hmw, HO, HR, HA, HB⟩
  subst hacc
  unfold ahead
  icases HA with ⟨HF, H6, Ho⟩
  iapply (wp_await 𝒱 d i (colK hV i k0) (halfK sB k0) _ _ rfl) $$ [HF HO]
  · isplitl [HF]; · iexact HF
    isplitr; · iexact Hmw
    iexact HO
  iintro ⟨HL, H4, HO⟩
  unfold landed
  icases HL with ⟨⟨%f, %hf, Hf⟩, Hh⟩
  iapply (wp_inner 𝒱 d i e rv (hRows h i) k0 _ harg2 harg3 harg4 harg5 harg6 harg7 harg8 harg9 f (Eq.trans hf (panel_start e rv h i k0))) $$ [HR Hf]
  · isplitl [HR]; · iexact HR
    iexact Hf
  iintro %f' %hf' HR Hf
  iapply (wp_issue_eq 𝒱 d i (halfK sB k0) (colK oV i k0) rfl e1 (by decide)) $$ [Hf Ho H6]
  · isplitl [Hf]; · iexact Hf
    isplitl [Ho]; · iexact Ho
    iexact H6
  iintro HF
  rw [wp_ret]; imodintro
  isplitr; · ipureintro; rfl
  isplitr; · iexact Hmw
  isplitl [HO]; · iexact HO
  isplitl [HR]; · iexact HR
  isplitl [H4 Hh HF]
  · unfold behind
    isplitl [H4]; · iexact H4
    isplitl [Hh]; · iexact Hh
    iexists f'
    isplitr; · ipureintro; exact hf'
    iexact HF
  · iexact HB

set_option maxHeartbeats 2000000 in
theorem half_trip1 (e : V16 F) (rv : Vec F S512 .f32) (h o : Vec F S8x512x768 .f32) (O : CellTallies nD τ sig (HIx 1)) (W : Waits sig (HIx 1))
    (harg2 harg3 harg4 harg5 harg6 harg7 harg8 harg9) (acc : Carry F) :
    invHalf d i e rv h o O W 1 acc ⊢ wp frame (wpE defs 𝒱 (tile d i) none) Set.univ
      (k0_t2_body i hV harg2 tV harg3 pV harg4 oV harg5 sP harg6 sT harg7 sR harg8 sB harg9
            cc0_scratch4 cc0_scratch5 cc0_scratch6 cc0_scratch7 cc0_scoped0 cc0_scoped1 e 0#32 k1 acc) (invHalf d i e rv h o O W 2) := by
  obtain ⟨c1, c2, c3, c4⟩ := conds1
  have e1 : colSlice oV (k0_off81 i) (k0_off81_inb i k1 c4) = colK oV i k1 := colSlice_congr oV _ _ (off81_eq i)
  unfold invHalf k0_t2_body
  rw [if_neg Nat.one_ne_zero, if_pos le_rfl, if_neg two_ne_zero, if_neg (Nat.not_le.mpr Nat.one_lt_two)]
  unfold idle
  simp only [dif_neg c1, dif_pos c2, dif_neg c3, dif_pos c4, Prog.lift, Prog.bind_op, Prog.bind_ret, Prog.pure_eq_ret]
  iintro ⟨%hacc, #Hmw, HO, HR, HA, HB⟩
  subst hacc
  unfold ahead
  icases HB with ⟨HF, H6, Ho⟩
  iapply (wp_await 𝒱 d i (colK hV i k1) (halfK sB k1) _ _ rfl) $$ [HF HO]
  · isplitl [HF]; · iexact HF
    isplitr; · iexact Hmw
    iexact HO
  iintro ⟨HL, H4, HO⟩
  unfold landed
  icases HL with ⟨⟨%f, %hf, Hf⟩, Hh⟩
  iapply (wp_inner 𝒱 d i e rv (hRows h i) k1 _ harg2 harg3 harg4 harg5 harg6 harg7 harg8 harg9 f (Eq.trans hf (panel_start e rv h i k1))) $$ [HR Hf]
  · isplitl [HR]; · iexact HR
    iexact Hf
  iintro %f' %hf' HR Hf
  iapply (wp_issue_eq 𝒱 d i (halfK sB k1) (colK oV i k1) rfl e1 (by decide)) $$ [Hf Ho H6]
  · isplitl [Hf]; · iexact Hf
    isplitl [Ho]; · iexact Ho
    iexact H6
  iintro HF
  rw [wp_ret]; imodintro
  isplitr; · ipureintro; rfl
  isplitr; · iexact Hmw
  isplitl [HO]; · iexact HO
  isplitl [HR]; · iexact HR
  isplitl [HA]; · iexact HA
  unfold behind
  isplitl [H4]; · iexact H4
  isplitl [Hh]; · iexact Hh
  iexists f'
  isplitr; · ipureintro; exact hf'
  iexact HF

theorem half_trip (e : V16 F) (rv : Vec F S512 .f32) (h o : Vec F S8x512x768 .f32) (O : CellTallies nD τ sig (HIx 1)) (W : Waits sig (HIx 1))
    (harg2 harg3 harg4 harg5 harg6 harg7 harg8 harg9) (k : Fin k0_t2_loop.trips) (acc : Carry F) :
    invHalf d i e rv h o O W k.val acc ⊢ wp frame (wpE defs 𝒱 (tile d i) none) Set.univ
      (k0_t2_body i hV harg2 tV harg3 pV harg4 oV harg5 sP harg6 sT harg7 sR harg8 sB harg9
            cc0_scratch4 cc0_scratch5 cc0_scratch6 cc0_scratch7 cc0_scoped0 cc0_scoped1 e 0#32 k acc) (invHalf d i e rv h o O W (k.val + 1)) := by
  match k with
  | ⟨0, _⟩ => exact half_trip0 𝒱 d i e rv h o O W harg2 harg3 harg4 harg5 harg6 harg7 harg8 harg9 acc
  | ⟨1, _⟩ => exact half_trip1 𝒱 d i e rv h o O W harg2 harg3 harg4 harg5 harg6 harg7 harg8 harg9 acc

/-- The two halves of the staging buffer. -/
def stage (f0 f1 : Vec F S2x256x128 .f32) : sProp 𝕄 :=
  iprop(((halfK sB k0).view.loc (tile d i) ↦[(halfK sB k0).view.set]{fullShare} f0) ∗ ((halfK sB k1).view.loc (tile d i) ↦[(halfK sB k1).view.set]{fullShare} f1))

/-- The tile's half of the result, written. -/
def wrote (e : V16 F) (rv : Vec F S512 .f32) (h : Vec F S8x512x768 .f32) (k : Fin k0_t2_loop.trips) : sProp 𝕄 :=
  iprop(∃ g, ⌜(colK oV i k).view.read (Elt F) g = panelAt e rv (hRows h i) k.val 256⌝ ∗ ((colK oV i k).view.loc (tile d i) ↦[(colK oV i k).view.set]{fullShare} g))

set_option maxHeartbeats 2000000 in
/-- One tile's kernel. -/
theorem tile_run (h : Vec F S8x512x768 .f32) (p : Vec F S16 .f32) (t : Vec F S8x512 .f32) (o : Vec F S8x512x768 .f32)
    (qp qt : PosShare TreeShare) (fB0 fB1 : Vec F S2x256x128 .f32) (fP : Vec F S16 .f32) (fT fR : Vec F S512 .f32) (O : CellTallies nD τ sig (HIx 1)) (W : Waits sig (HIx 1))
    (harg2 harg3 harg4 harg5 harg6 harg7 harg8 harg9) (Q : PUnit → sProp 𝕄) :
    iprop(Transfers.MayWaits (tile d i) (none : HIx 1) O ∗ idle d i O W
        ∗ ((colK hV i k0).view.loc (tile d i) ↦[(colK hV i k0).view.set]{fullShare} h) ∗ ((colK hV i k1).view.loc (tile d i) ↦[(colK hV i k1).view.set]{fullShare} h)
        ∗ ((colK oV i k0).view.loc (tile d i) ↦[(colK oV i k0).view.set]{fullShare} o) ∗ ((colK oV i k1).view.loc (tile d i) ↦[(colK oV i k1).view.set]{fullShare} o)
        ∗ stage d i fB0 fB1
        ∗ ((pV).view.loc (tile d i) ↦{qp} p) ∗ ((sP).view.loc (tile d i) ↦{fullShare} fP)
        ∗ ((timeK tV i).view.loc (tile d i) ↦[(timeK tV i).view.set]{qt} t) ∗ ((sT).view.loc (tile d i) ↦{fullShare} fT) ∗ ((sR).view.loc (tile d i) ↦{fullShare} fR)
        ∗ semVal (tile d i, SemLoc.dma cc0_scratch4.sem) 0 ∗ semVal (tile d i, SemLoc.dma cc0_scratch5.sem) 0
        ∗ semVal (tile d i, SemLoc.dma cc0_scratch6.sem) 0 ∗ semVal (tile d i, SemLoc.dma cc0_scratch7.sem) 0
        ∗ semVal (tile d i, SemLoc.dma cc0_scoped0.sem) 0 ∗ semVal (tile d i, SemLoc.dma cc0_scoped1.sem) 0)
      ⊢ iprop((idle d i O W
          -∗ ((colK hV i k0).view.loc (tile d i) ↦[(colK hV i k0).view.set]{fullShare} h) -∗ ((colK hV i k1).view.loc (tile d i) ↦[(colK hV i k1).view.set]{fullShare} h)
          -∗ wrote d i (fun _ => p (ix1 1)) (decay (p (ix1 2)) (tRow t i)) h k0 -∗ wrote d i (fun _ => p (ix1 1)) (decay (p (ix1 2)) (tRow t i)) h k1
          -∗ (∃ f0 f1, stage d i f0 f1)
          -∗ ((pV).view.loc (tile d i) ↦{qp} p) -∗ (∃ f, (sP).view.loc (tile d i) ↦{fullShare} f)
          -∗ ((timeK tV i).view.loc (tile d i) ↦[(timeK tV i).view.set]{qt} t) -∗ (∃ f, (sT).view.loc (tile d i) ↦{fullShare} f) -∗ (∃ f, (sR).view.loc (tile d i) ↦{fullShare} f)
          -∗ semVal (tile d i, SemLoc.dma cc0_scratch4.sem) 0 -∗ semVal (tile d i, SemLoc.dma cc0_scratch5.sem) 0
          -∗ semVal (tile d i, SemLoc.dma cc0_scratch6.sem) 0 -∗ semVal (tile d i, SemLoc.dma cc0_scratch7.sem) 0
          -∗ semVal (tile d i, SemLoc.dma cc0_scoped0.sem) 0 -∗ semVal (tile d i, SemLoc.dma cc0_scoped1.sem) 0
          -∗ Q ⟨⟩)
        -∗ wp frame (wpE defs 𝒱 (tile d i) none) Set.univ
          (cc0__sc_body i hV harg2 tV harg3 pV harg4 oV harg5 sP harg6 sT harg7 sR harg8 sB harg9
            cc0_scratch4 cc0_scratch5 cc0_scratch6 cc0_scratch7 cc0_scoped0 cc0_scoped1) Q) := by
  rw [cc0__sc_body_eq_skeleton]
  unfold cc0__sc_body_skel stage
  rw [k0_part29_eq_skeleton]
  unfold k0_part29_skel
  simp only [Prog.lift, Prog.bind_op, Prog.bind_ret, Prog.pure_eq_ret]
  iintro ⟨#Hmw, HO, Hh0, Hh1, Ho0, Ho1, ⟨HB0, HB1⟩, Hp, HP, Ht, HT, HR, H4, H5, H6, H7, H8, H9⟩ Hk
  rw [wp_bind]
  iapply (wp_part30 𝒱 d i h p t qp qt fB0 fB1 fP fT fR O W harg2 harg3 harg4 harg5 harg6 harg7 harg8 harg9) $$ [HO Hh0 Hh1 HB0 HB1 Hp HP Ht HT HR H4 H5 H8 H9]
  · isplitr; · iexact Hmw
    isplitl [HO]; · iexact HO
    isplitl [Hh0]; · iexact Hh0
    isplitl [Hh1]; · iexact Hh1
    isplitl [HB0]; · iexact HB0
    isplitl [HB1]; · iexact HB1
    isplitl [Hp]; · iexact Hp
    isplitl [HP]; · iexact HP
    isplitl [Ht]; · iexact Ht
    isplitl [HT]; · iexact HT
    isplitl [HR]; · iexact HR
    isplitl [H4]; · iexact H4
    isplitl [H5]; · iexact H5
    isplitl [H8]; · iexact H8
    iexact H9
  iintro HO HF0 HF1 Hp HP Ht HT HR H8 H9
  iapply (Scf.wp_for_bind frame (wpE defs 𝒱 (tile d i) none) Set.univ _ _ _ _ _ _ (invHalf d i (fun _ => p (ix1 1)) (decay (p (ix1 2)) (tRow t i)) h o O W) ?body) $$ [HO HR HF0 HF1 H6 H7 Ho0 Ho1]
  case body =>
    exact half_trip 𝒱 d i _ _ h o O W harg2 harg3 harg4 harg5 harg6 harg7 harg8 harg9
  · unfold invHalf
    rw [if_pos rfl, if_pos (Nat.zero_le 1)]
    isplitr; · ipureintro; rfl
    isplitr; · iexact Hmw
    isplitl [HO]; · iexact HO
    isplitl [HR]; · iexact HR
    unfold ahead
    isplitl [HF0 H6 Ho0]
    · isplitl [HF0]; · iexact HF0
      isplitl [H6]; · iexact H6
      iexact Ho0
    · isplitl [HF1]; · iexact HF1
      isplitl [H7]; · iexact H7
      iexact Ho1
  iintro %acc HI
  unfold invHalf
  rw [if_neg (show ¬ k0_t2_loop.trips = 0 by decide), if_neg (show ¬ k0_t2_loop.trips ≤ 1 by decide)]
  unfold behind
  icases HI with ⟨-, -, HO, HR, ⟨H4, Hh0, %f0, %hf0, HF0⟩, ⟨H5, Hh1, %f1, %hf1, HF1⟩⟩
  unfold idle
  iapply (wp_await 𝒱 d i (halfK sB k0) (colK oV i k0) (halfK sB k0) (colSlice oV (k0_off82 i) (k0_off82_inb i)) rfl) $$ [HF0 HO]
  · isplitl [HF0]; · iexact HF0
    isplitr; · iexact Hmw
    iexact HO
  iintro ⟨HL0, H6, HO⟩
  iapply (wp_await 𝒱 d i (halfK sB k1) (colK oV i k1) (halfK sB k1) (colSlice oV (k0_off83 i) (k0_off83_inb i)) rfl) $$ [HF1 HO]
  · isplitl [HF1]; · iexact HF1
    isplitr; · iexact Hmw
    iexact HO
  iintro ⟨HL1, H7, HO⟩
  unfold landed
  icases HL0 with ⟨⟨%g0, %hg0, Ho0⟩, HB0⟩
  icases HL1 with ⟨⟨%g1, %hg1, Ho1⟩, HB1⟩
  rw [wp_ret]; imodintro
  unfold wrote
  iapply Hk $$ HO Hh0 Hh1 [Ho0] [Ho1] [HB0 HB1] Hp [HP] Ht [HT] [HR] H4 H5 H6 H7 H8 H9
  · iexists g0
    isplitr; · ipureintro; exact hg0.trans hf0
    iexact Ho0
  · iexists g1
    isplitr; · ipureintro; exact hg1.trans hf1
    iexact Ho1
  · iexists f0; iexists f1
    isplitl [HB0]; · iexact HB0
    iexact HB1
  · iexists _; iexact HP
  · iexists _; iexact HT
  · iexists _; iexact HR

end Cert.Proof.KIdeal
-- ==== Proof.Pieces.lean ====
module

public import proofs.«01_k».proof.Proof.Tile

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! ## The blocks the tiles own -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Half `k` of the block of a tile. -/
def blk (i : grid0.Coords) (k : Fin k0_t2_loop.trips) : Finset S8x512x768.Idx :=
  Finset.univ.filter fun x => (x 0).val = tileB i ∧ (x 1).val / 256 = k.val ∧ (x 2).val / 128 * 128 = tileD i

/-- The block of a tile. -/
def blkT (i : grid0.Coords) : Finset S8x512x768.Idx :=
  Finset.univ.filter fun x => (x 0).val = tileB i ∧ (x 2).val / 128 * 128 = tileD i

/-- The columns the tiles own together. -/
def cols : Finset S8x512x768.Idx := Finset.univ.filter fun x => (x 2).val < 512

/-- The row of times of a tile. -/
def tBlk (i : grid0.Coords) : Finset S8x512.Idx := Finset.univ.filter fun x => (x 0).val = tileB i

theorem tileD_mod : ∀ i : grid0.Coords, tileD i % 128 = 0 := by decide +kernel

theorem mem_part (i : grid0.Coords) (k : Fin k0_t2_loop.trips) (x : S8x512x768.Idx) :
    x ∈ (Rect.unit (s := S8x512x768) (tileOff i k) S1x256x128.size (tileOff_inb i k)).set ↔ x ∈ blk i k := by
  have hD := tileD_le i
  have hM := tileD_mod i
  have h1 : (x 1).val < 512 := (x 1).isLt
  unfold blk
  rw [Rect.mem_set_unit, Finset.mem_filter]
  constructor
  · intro h
    have a0 : tileB i ≤ (x 0).val ∧ (x 0).val < tileB i + 1 := h 0
    have a1 : 256 * k.val ≤ (x 1).val ∧ (x 1).val < 256 * k.val + 256 := h 1
    have a2 : tileD i ≤ (x 2).val ∧ (x 2).val < tileD i + 128 := h 2
    exact ⟨Finset.mem_univ _, by omega, by omega, by omega⟩
  · rintro ⟨-, a0, a1, a2⟩ a
    match a with
    | ⟨0, _⟩ => show tileB i ≤ (x 0).val ∧ (x 0).val < tileB i + 1; omega
    | ⟨1, _⟩ => show 256 * k.val ≤ (x 1).val ∧ (x 1).val < 256 * k.val + 256; omega
    | ⟨2, _⟩ => show tileD i ≤ (x 2).val ∧ (x 2).val < tileD i + 128; omega

theorem set_hK (i : grid0.Coords) (k : Fin k0_t2_loop.trips) : (colK hV i k).view.set = blk i k := by
  show (((hV).view.slice (Rect.unit (s := S8x512x768) (tileOff i k) S1x256x128.size (tileOff_inb i k))).reshape S256x128 squeezes_S1x256x128_S256x128.numel_eq).set = _
  rw [View.set_reshape]
  refine (View.set_slice_whole _ _).trans (Finset.ext fun x => mem_part i k x)

theorem set_oK (i : grid0.Coords) (k : Fin k0_t2_loop.trips) : (colK oV i k).view.set = blk i k := by
  show (((oV).view.slice (Rect.unit (s := S8x512x768) (tileOff i k) S1x256x128.size (tileOff_inb i k))).reshape S256x128 squeezes_S1x256x128_S256x128.numel_eq).set = _
  rw [View.set_reshape]
  refine (View.set_slice_whole _ _).trans (Finset.ext fun x => mem_part i k x)

theorem blkT_eq (i : grid0.Coords) : blkT i = blk i k0 ∪ blk i k1 := by
  ext x
  have h1 : (x 1).val < 512 := (x 1).isLt
  unfold blkT blk
  simp only [Finset.mem_union, Finset.mem_filter, Finset.mem_univ, true_and]
  omega

theorem blk_disjoint (i : grid0.Coords) : Disjoint (blk i k0) (blk i k1) := by
  rw [Finset.disjoint_left]
  intro x h0 h1
  unfold blk at h0 h1
  simp only [Finset.mem_filter, Finset.mem_univ, true_and] at h0 h1
  omega

theorem coords_inj : ∀ (c c' : Fin (grid0.bound 0)) (s s' : Fin (grid0.bound 1)),
    tileB (coordsV c s) = tileB (coordsV c' s') → tileD (coordsV c s) = tileD (coordsV c' s') → c = c' ∧ s = s' := by
  intro c c' s s' hB hD
  have hc : c.val < 2 := c.isLt
  have hc' : c'.val < 2 := c'.isLt
  have e1 : (2 * s.val + c.val) / 4 = (2 * s'.val + c'.val) / 4 := hB
  have e2 : ((2 * s.val + c.val) % 4) * 128 = ((2 * s'.val + c'.val) % 4) * 128 := hD
  exact ⟨Fin.ext (by omega), Fin.ext (by omega)⟩

theorem blkT_disjoint (a b : Fin (grid0.bound 0) × Fin (grid0.bound 1)) (h : a ≠ b) :
    Disjoint (blkT (coordsV a.1 a.2)) (blkT (coordsV b.1 b.2)) := by
  rw [Finset.disjoint_left]
  intro x h0 h1
  unfold blkT at h0 h1
  simp only [Finset.mem_filter, Finset.mem_univ, true_and] at h0 h1
  obtain ⟨e1, e2⟩ := coords_inj a.1 b.1 a.2 b.2 (h0.1.symm.trans h1.1) (h0.2.symm.trans h1.2)
  exact h (Prod.ext e1 e2)

theorem cols_eq : (Finset.univ : Finset (Fin (grid0.bound 0) × Fin (grid0.bound 1))).biUnion (fun a => blkT (coordsV a.1 a.2)) = cols := by
  ext x
  have h0 : (x 0).val < 8 := (x 0).isLt
  unfold cols blkT
  simp only [Finset.mem_biUnion, Finset.mem_filter, Finset.mem_univ, true_and]
  constructor
  · rintro ⟨a, -, e⟩
    have := tileD_le (coordsV a.1 a.2)
    omega
  · intro h
    refine ⟨(⟨(x 2).val / 128 % 2, Nat.mod_lt _ (by decide)⟩, ⟨2 * (x 0).val + (x 2).val / 128 / 2, ?_⟩), ?_, ?_⟩
    · show 2 * (x 0).val + (x 2).val / 128 / 2 < 16; omega
    · show (x 0).val = (2 * (2 * (x 0).val + (x 2).val / 128 / 2) + (x 2).val / 128 % 2) / 4; omega
    · show (x 2).val / 128 * 128 = ((2 * (2 * (x 0).val + (x 2).val / 128 / 2) + (x 2).val / 128 % 2) % 4) * 128; omega

theorem set_tK (i : grid0.Coords) : (timeK tV i).view.set = tBlk i := by
  show (((tV).view.slice (Rect.unit (s := S8x512) ![tileB i, 0] S1x512.size (tOff_inb i))).reshape S512 squeezes_S1x512_S512.numel_eq).set = _
  rw [View.set_reshape]
  refine (View.set_slice_whole _ _).trans (Finset.ext fun x => ?_)
  have h1 : (x 1).val < 512 := (x 1).isLt
  unfold tBlk
  rw [Rect.mem_set_unit, Finset.mem_filter]
  constructor
  · intro h
    have a0 : tileB i ≤ (x 0).val ∧ (x 0).val < tileB i + 1 := h 0
    exact ⟨Finset.mem_univ _, by omega⟩
  · rintro ⟨-, a0⟩ a
    match a with
    | ⟨0, _⟩ => show tileB i ≤ (x 0).val ∧ (x 0).val < tileB i + 1; omega
    | ⟨1, _⟩ => show 0 ≤ (x 1).val ∧ (x 1).val < 0 + 512; omega

/-! ## What the tiles leave, as one function of the array's index -/

/-- The rows of batch `b`, columns `d0` to `d0 + 127`, by chunks. -/
def hOf (h : Vec F S8x512x768 .f32) (b d0 : ℕ) (g : ℕ) : Row F := fun c x => entry h b g (d0 + 16 * c.val + (x 0).val)
/-- The times of batch `b`. -/
def tOf (t : Vec F S8x512 .f32) (b : Fin 8) : Vec F S512 .f32 := fun s => t (ix2 b (s 0))

/-- The array after the tiles: the scan in the first 512 columns, the old contents elsewhere. -/
def scan (h : Vec F S8x512x768 .f32) (p : Vec F S16 .f32) (t : Vec F S8x512 .f32) (o : Vec F S8x512x768 .f32) : Vec F S8x512x768 .f32 := fun x =>
  if (x 2).val < 512 then
    atCol (outs (fun _ => p (ix1 1)) (decay (p (ix1 2)) (tOf t (x 0))) (hOf h (x 0).val ((x 2).val / 128 * 128)) (x 1).val) ⟨(x 2).val % 128, Nat.mod_lt _ (by decide)⟩
  else o x

theorem scan_of_read (h : Vec F S8x512x768 .f32) (p : Vec F S16 .f32) (t : Vec F S8x512 .f32) (o : Vec F S8x512x768 .f32) (i : grid0.Coords) (k : Fin k0_t2_loop.trips)
    (g : Vec F S8x512x768 .f32) (hg : (colK oV i k).view.read (Elt F) g = panelAt (fun _ => p (ix1 1)) (decay (p (ix1 2)) (tRow t i)) (hRows h i) k.val 256)
    (x : S8x512x768.Idx) (hx : x ∈ blk i k) : g x = scan h p t o x := by
  have hD := tileD_le i
  have hM := tileD_mod i
  unfold blk at hx
  simp only [Finset.mem_filter, Finset.mem_univ, true_and] at hx
  obtain ⟨e0, e1, e2⟩ := hx
  have l0 : (x 1).val % 256 < 256 := Nat.mod_lt _ (by decide)
  have l1 : (x 2).val % 128 < 128 := Nat.mod_lt _ (by decide)
  have hr := congrFun hg (ix2 ⟨(x 1).val % 256, l0⟩ ⟨(x 2).val % 128, l1⟩)
  rw [squeeze_read] at hr
  have hb : (⟨tileB i, tileB_lt i⟩ : Fin 8) = x 0 := Fin.ext e0.symm
  have hrow : 256 * k.val + (x 1).val % 256 = (x 1).val := by omega
  refine Eq.trans (congrArg g (funext fun a => Fin.ext ?_)) (hr.trans ?_)
  · match a with
    | ⟨0, _⟩ => show (x 0).val = tileB i + 1 * 0; omega
    | ⟨1, _⟩ => show (x 1).val = 256 * k.val + 1 * ((x 1).val % 256); omega
    | ⟨2, _⟩ => show (x 2).val = tileD i + 1 * ((x 2).val % 128); omega
  · unfold scan panelAt
    rw [if_pos (show (x 2).val < 512 by omega)]
    refine (if_pos l0).trans ?_
    show atCol (outs _ _ _ (256 * k.val + (x 1).val % 256)) _ = _
    rw [hrow]
    have ht : tRow t i = tOf t (x 0) := by rw [← hb]; rfl
    have hh : hRows h i = hOf h (x 0).val ((x 2).val / 128 * 128) := by rw [e0, e2]; rfl
    rw [ht, hh]; rfl

end Cert.Proof.KIdeal
-- ==== Proof.Launch.lean ====
module

public import proofs.«01_k».proof.Proof.Pieces

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore0 : (K (F := F)).nCore 0 = grid0.bound 0 := rfl
theorem nSub0 : (K (F := F)).nSub 0 = grid0.bound 1 := rfl

/-- The handshakes' component of the ghost state. -/
def EH : Emb (URounds (GSem nD τ sig) ℕ) 𝕄 := embL
instance EH_landsIn : (EH : Emb (URounds (GSem nD τ sig) ℕ) 𝕄).LandsIn (upEmb : UEmb _ 𝕄) := by unfold EH; infer_instance

/-! ## What a tile is handed and what it hands back -/

abbrev hLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v4
abbrev oLoc (d : Dev nD) : Loc nD τ sig := (SparseCore.T d).loc main_v5

variable (m : (ℓ : Loc nD τ sig) → Buf (Elt F) ℓ) (pv : Dev nD → Vec F S16 .f32)

/-- The array the tiles leave on device `d`. -/
def scanOut (d : Dev nD) : Buf (Elt F) (oLoc d) := scan (m (hLoc d)) (pv d) (m (tLoc d)) (m (oLoc d))

/-- A tile's part: its block of the input and of the output, a share of the parameters and of the times. -/
def piece (d : Dev nD) (i : grid0.Coords) (q : PosShare TreeShare) (o : Buf (Elt F) (oLoc d)) : sProp 𝕄 :=
  iprop((hLoc d ↦[blkT i]{fullShare} m (hLoc d)) ∗ (oLoc d ↦[blkT i]{fullShare} o) ∗ (pLoc d ↦{q} (pv d : Buf (Elt F) (pLoc d))) ∗ (tLoc d ↦{q} m (tLoc d)))

instance piece_storable (d : Dev nD) (i : grid0.Coords) (q : PosShare TreeShare) (o : Buf (Elt F) (oLoc d)) :
    BI.Storable (upEmb : UEmb _ 𝕄) (piece m pv d i q o) := by unfold piece; infer_instance

/-- The share of the parameters and of the times dealt to a tile. -/
def tileShare (c : Fin (grid0.bound 0)) (s : Fin (grid0.bound 1)) : PosShare TreeShare :=
  Transfers.dealOf (Transfers.dealOf fullShare (Finset.univ : Finset (Fin (grid0.bound 0))) c) (Finset.univ : Finset (Fin (grid0.bound 1))) s

/-- The part of tile `s` of SparseCore `c`. -/
abbrev part (d : Dev nD) (o : Buf (Elt F) (oLoc d)) (c : Fin (grid0.bound 0)) (s : Fin (grid0.bound 1)) : sProp 𝕄 :=
  piece m pv d (coordsV c s) (tileShare c s) o

/-- The one call: every tile its part, back with its block of the scan. -/
def P : (K (F := F)).Pay (nD := nD) (Val := Elt F) (Name := ℕ) (U := (URounds (GSem nD τ sig) ℕ) × ((URounds (GSem nD τ sig) Unit) × Counters)) where
  st := fun q d c => match q with | 0 => bigSep Finset.univ fun i : Fin (grid0.bound 1) => part m pv d (m (oLoc d)) (Fin.cast nCore0 c) i
  dn := fun q d c => match q with | 0 => bigSep Finset.univ fun i : Fin (grid0.bound 1) => part m pv d (scanOut m pv d) (Fin.cast nCore0 c) i
  go := fun q d c i => match q with | 0 => part m pv d (m (oLoc d)) (Fin.cast nCore0 c) (Fin.cast nSub0 i)
  td := fun q d c i => match q with | 0 => part m pv d (scanOut m pv d) (Fin.cast nCore0 c) (Fin.cast nSub0 i)
  x := fun _ _ => iprop(emp)

instance P_storable : (P m pv).IsStorable where
  st q d c := match q with
    | 0 => (inferInstance : BI.Storable (upEmb : UEmb _ 𝕄) (bigSep Finset.univ fun i : Fin (grid0.bound 1) => part m pv d (m (oLoc d)) (Fin.cast nCore0 c) i))
  dn q d c := match q with
    | 0 => (inferInstance : BI.Storable (upEmb : UEmb _ 𝕄) (bigSep Finset.univ fun i : Fin (grid0.bound 1) => part m pv d (scanOut m pv d) (Fin.cast nCore0 c) i))
  go q d c i := match q with
    | 0 => (inferInstance : BI.Storable (upEmb : UEmb _ 𝕄) (part m pv d (m (oLoc d)) (Fin.cast nCore0 c) (Fin.cast nSub0 i)))
  td q d c i := match q with
    | 0 => (inferInstance : BI.Storable (upEmb : UEmb _ 𝕄) (part m pv d (scanOut m pv d) (Fin.cast nCore0 c) (Fin.cast nSub0 i)))

theorem vecSplit : (K (F := F)).VecSplit' (P m pv) 0 := by
  intro d c
  show (bigSep Finset.univ fun i : Fin (grid0.bound 1) => part m pv d (m (oLoc d)) (Fin.cast nCore0 c) i) ⊢ |={Set.univ}=> iprop(
    (bigSep Finset.univ fun i : Fin (grid0.bound 1) => part m pv d (m (oLoc d)) (Fin.cast nCore0 c) i)
    ∗ ((bigSep Finset.univ fun i : Fin (grid0.bound 1) => part m pv d (scanOut m pv d) (Fin.cast nCore0 c) i)
      -∗ (bigSep Finset.univ fun i : Fin (grid0.bound 1) => part m pv d (scanOut m pv d) (Fin.cast nCore0 c) i)))
  iintro H; imodintro
  isplitl [H]; · iexact H
  iintro H; iexact H

/-! ## A tile's own storage -/

section Own

variable (d : Dev nD) (i : grid0.Coords)

/-- The semaphores the tile's kernel uses. -/
def semList : Finset (SemLoc sig) :=
  {SemLoc.dma cc0_scratch4.sem, SemLoc.dma cc0_scratch5.sem, SemLoc.dma cc0_scratch6.sem, SemLoc.dma cc0_scratch7.sem,
    SemLoc.dma cc0_scoped0.sem, SemLoc.dma cc0_scoped1.sem}

theorem semList_scoped : ∀ s ∈ semList, s.isScoped .scVector = true := by decide

theorem ownSems_tile : ∃ R : sProp 𝕄, (ownSems0 (tile d i) : sProp 𝕄)
    = iprop((semVal (tile d i, SemLoc.dma cc0_scratch4.sem) 0 ∗ semVal (tile d i, SemLoc.dma cc0_scratch5.sem) 0
        ∗ semVal (tile d i, SemLoc.dma cc0_scratch6.sem) 0 ∗ semVal (tile d i, SemLoc.dma cc0_scratch7.sem) 0
        ∗ semVal (tile d i, SemLoc.dma cc0_scoped0.sem) 0 ∗ semVal (tile d i, SemLoc.dma cc0_scoped1.sem) 0) ∗ R) := by
  have hsub : semList.map ⟨fun s => ((tile d i, s) : GSem nD τ sig), fun a b e => (Prod.mk.inj e).2⟩ ⊆ ownCells (tile d i) := by
    intro g hg
    obtain ⟨s, hs, rfl⟩ := Finset.mem_map.mp hg
    exact mem_ownCells.mpr ⟨rfl, semList_scoped s hs⟩
  refine ⟨bigSep (ownCells (tile d i) \ semList.map ⟨fun s => ((tile d i, s) : GSem nD τ sig), fun a b e => (Prod.mk.inj e).2⟩) fun g => semVal g 0, ?_⟩
  unfold SparseCore.Cfg.ownSems0
  rw [SparseCore.bigSep_sdiff_split' hsub, bigSep_map]
  congr 1
  unfold semList
  rw [SparseCore.bigSep_insert' (by decide), SparseCore.bigSep_insert' (by decide), SparseCore.bigSep_insert' (by decide),
    SparseCore.bigSep_insert' (by decide), SparseCore.bigSep_insert' (by decide), bigSep_singleton]
  rfl

/-- The buffers the tile's kernel uses. -/
def bufList : Finset (Ref sig .scVector) := {cc0_scratch0, cc0_scratch1, cc0_scratch2, cc0_scratch3}

theorem ownBufs_tile : ∃ R : sProp 𝕄, (ownBufs (tile d i) : sProp 𝕄)
    = iprop(((∃ f, (tile d i).loc cc0_scratch0 ↦{fullShare} f) ∗ (∃ f, (tile d i).loc cc0_scratch1 ↦{fullShare} f)
        ∗ (∃ f, (tile d i).loc cc0_scratch2 ↦{fullShare} f) ∗ (∃ f, (tile d i).loc cc0_scratch3 ↦{fullShare} f)) ∗ R) := by
  have hsub : bufList.map ⟨fun b => (tile d i).2.devRef b, fun a b e => Proc.devRef_injective _ e⟩ ⊆ ownRefs (τ := τ) (sig := sig) (tile d i).2 := by
    intro g hg
    obtain ⟨s, hs, rfl⟩ := Finset.mem_map.mp hg
    unfold bufList at hs
    simp only [Finset.mem_insert, Finset.mem_singleton] at hs
    rcases hs with rfl | rfl | rfl | rfl <;> exact SparseCore.Cfg.mem_ownRefs_of_owner rfl
  refine ⟨bigSep (ownRefs (tile d i).2 \ bufList.map ⟨fun b => (tile d i).2.devRef b, fun a b e => Proc.devRef_injective _ e⟩) fun b => iprop(∃ f, ((d, b) : Loc nD τ sig) ↦{fullShare} f), ?_⟩
  unfold SparseCore.Cfg.ownBufs
  rw [SparseCore.bigSep_sdiff_split' hsub, bigSep_map]
  congr 1
  unfold bufList
  rw [SparseCore.bigSep_insert' (show (cc0_scratch0 : Ref sig .scVector) ∉ ({cc0_scratch1, cc0_scratch2, cc0_scratch3} : Finset (Ref sig .scVector)) by decide),
    SparseCore.bigSep_insert' (show (cc0_scratch1 : Ref sig .scVector) ∉ ({cc0_scratch2, cc0_scratch3} : Finset (Ref sig .scVector)) by decide),
    SparseCore.bigSep_insert' (show (cc0_scratch2 : Ref sig .scVector) ∉ ({cc0_scratch3} : Finset (Ref sig .scVector)) by decide), bigSep_singleton]
  rfl

/-- The two halves of the staging buffer. -/
def halfSet (k : Fin k0_t2_loop.trips) : Finset S2x256x128.Idx := Finset.univ.filter fun x => (x 0).val = k.val

theorem set_half (k : Fin k0_t2_loop.trips) : (halfK sB k).view.set = halfSet k := by
  show (((sB).view.slice (Rect.unit (s := S2x256x128) ![k.val, 0, 0] S1x256x128.size (half_inb k))).reshape S256x128 _).set = _
  rw [View.set_reshape]
  refine (View.set_slice_whole _ _).trans (Finset.ext fun x => ?_)
  have h1 : (x 1).val < 256 := (x 1).isLt
  have h2 : (x 2).val < 128 := (x 2).isLt
  unfold halfSet
  rw [Rect.mem_set_unit, Finset.mem_filter]
  constructor
  · intro h
    have a0 : k.val ≤ (x 0).val ∧ (x 0).val < k.val + 1 := h 0
    exact ⟨Finset.mem_univ _, by omega⟩
  · rintro ⟨-, a0⟩ a
    match a with
    | ⟨0, _⟩ => show k.val ≤ (x 0).val ∧ (x 0).val < k.val + 1; omega
    | ⟨1, _⟩ => show 0 ≤ (x 1).val ∧ (x 1).val < 0 + 256; omega
    | ⟨2, _⟩ => show 0 ≤ (x 2).val ∧ (x 2).val < 0 + 128; omega

theorem half_disjoint : Disjoint (halfSet k0) (halfSet k1) := by
  rw [Finset.disjoint_left]
  intro x h0 h1
  unfold halfSet at h0 h1
  simp only [Finset.mem_filter, Finset.mem_univ, true_and] at h0 h1
  omega

theorem half_union : halfSet k0 ∪ halfSet k1 = Finset.univ := by
  ext x
  have h0 : (x 0).val < 2 := (x 0).isLt
  unfold halfSet
  simp only [Finset.mem_union, Finset.mem_filter, Finset.mem_univ, true_and, iff_true]
  omega

theorem stage_split (f : Buf (Elt F) ((tile d i).loc cc0_scratch3)) :
    ((tile d i).loc cc0_scratch3 ↦{fullShare} f : sProp 𝕄) ⊢ stage d i f f := by
  unfold stage
  rw [set_half, set_half]
  show ((tile d i).loc cc0_scratch3 ↦{fullShare} f : sProp 𝕄) ⊢ iprop(((tile d i).loc cc0_scratch3 ↦[halfSet k0]{fullShare} f) ∗ ((tile d i).loc cc0_scratch3 ↦[halfSet k1]{fullShare} f))
  have e := pointsTo_union (nD := nD) (τ := τ) (sig := sig) (Ix := HIx 1) (Val := Elt F) (Name := ℕ) (Lvl := ℕ) (U := (URounds (GSem nD τ sig) ℕ) × ((URounds (GSem nD τ sig) Unit) × Counters))
    (ℓ := (tile d i).loc cc0_scratch3) (I := halfSet k0) (J := halfSet k1) (q := fullShare) (f := f) half_disjoint
  rw [half_union] at e
  exact e.1

theorem stage_join (f0 f1 : Buf (Elt F) ((tile d i).loc cc0_scratch3)) :
    stage d i f0 f1 ⊢ (∃ f, (tile d i).loc cc0_scratch3 ↦{fullShare} f : sProp 𝕄) := by
  unfold stage
  rw [set_half, set_half]
  show iprop(((tile d i).loc cc0_scratch3 ↦[halfSet k0]{fullShare} f0) ∗ ((tile d i).loc cc0_scratch3 ↦[halfSet k1]{fullShare} f1)) ⊢ _
  have e := pointsTo_join (nD := nD) (τ := τ) (sig := sig) (Ix := HIx 1) (Val := Elt F) (Name := ℕ) (Lvl := ℕ) (U := (URounds (GSem nD τ sig) ℕ) × ((URounds (GSem nD τ sig) Unit) × Counters))
    (ℓ := (tile d i).loc cc0_scratch3) (I := halfSet k0) (J := halfSet k1) (q := fullShare) (f := f0) (g := f1) half_disjoint
  rw [half_union] at e
  iintro H
  ihave H := e $$ H
  iexists _; iexact H

end Own

end Cert.Proof.KIdeal
-- ==== Proof.TileObl.lean ====
module

public import proofs.«01_k».proof.Proof.Launch

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

variable (m : (ℓ : Loc nD τ sig) → Buf (Elt F) ℓ) (pv : Dev nD → Vec F S16 .f32)

section Body

variable (d : Dev nD) (i : grid0.Coords)

theorem h_in (f : Buf (Elt F) (hLoc d)) :
    (hLoc d ↦[blkT i]{fullShare} f : sProp 𝕄)
      ⊣⊢ iprop(((colK hV i k0).view.loc (tile d i) ↦[(colK hV i k0).view.set]{fullShare} f) ∗ ((colK hV i k1).view.loc (tile d i) ↦[(colK hV i k1).view.set]{fullShare} f)) := by
  rw [set_hK, set_hK, blkT_eq]
  exact pointsTo_union (ℓ := hLoc d) (blk_disjoint i)

theorem o_in (f : Buf (Elt F) (oLoc d)) :
    (oLoc d ↦[blkT i]{fullShare} f : sProp 𝕄)
      ⊣⊢ iprop(((colK oV i k0).view.loc (tile d i) ↦[(colK oV i k0).view.set]{fullShare} f) ∗ ((colK oV i k1).view.loc (tile d i) ↦[(colK oV i k1).view.set]{fullShare} f)) := by
  rw [set_oK, set_oK, blkT_eq]
  exact pointsTo_union (ℓ := oLoc d) (blk_disjoint i)

theorem t_in (q : PosShare TreeShare) (f : Buf (Elt F) (tLoc d)) :
    (tLoc d ↦{q} f : sProp 𝕄)
      ⊣⊢ iprop(((timeK tV i).view.loc (tile d i) ↦[(timeK tV i).view.set]{q} f) ∗ (tLoc d ↦[Finset.univ \ tBlk i]{q} f)) := by
  rw [set_tK]
  exact pointsTo_split_subset (ℓ := tLoc d) (Finset.subset_univ _)

/-- What a tile wrote is the scan's block. -/
theorem wrote_scan (k : Fin k0_t2_loop.trips) :
    wrote d i (fun _ => pv d (ix1 1)) (decay (pv d (ix1 2)) (tRow (m (tLoc d)) i)) (m (hLoc d)) k
      ⊢ ((colK oV i k).view.loc (tile d i) ↦[(colK oV i k).view.set]{fullShare} scanOut m pv d : sProp 𝕄) := by
  unfold wrote
  iintro ⟨%g, %hg, H⟩
  ihave H := (Entails.of_eq (pointsTo_congr (ℓ := (colK oV i k).view.loc (tile d i)) (f := g) (g := scanOut m pv d)
    (fun x hx => scan_of_read (m (hLoc d)) (pv d) (m (tLoc d)) (m (oLoc d)) i k g hg x ((set_oK i k) ▸ hx)))) $$ H
  iexact H

set_option maxHeartbeats 1000000 in
/-- One tile's part of the call. -/
theorem tile_body (q : PosShare TreeShare) (O : CellTallies nD τ sig (HIx 1)) (W : Waits sig (HIx 1)) (hO : ∀ g, O g none = 0) (harg2 harg3 harg4 harg5 harg6 harg7 harg8 harg9) :
    iprop(levAts (K (F := F)).L (K (F := F)).lev ∗ emp ∗ piece m pv d i q (m (oLoc d)) ∗ scopedBufs (tile d i) ∗ scopedSems0 (tile d i) ∗ owes (tile d i) O W)
      ⊢ wp frame (wpE (defs₀ (F := F)) 𝒱₀ (tile d i) none) Set.univ
          (cc0__sc_body i hV harg2 tV harg3 pV harg4 oV harg5 sP harg6 sT harg7 sR harg8 sB harg9
            cc0_scratch4 cc0_scratch5 cc0_scratch6 cc0_scratch7 cc0_scoped0 cc0_scoped1)
          fun _ => iprop(piece m pv d i q (scanOut m pv d) ∗ scopedBufs (tile d i) ∗ scopedSems0 (tile d i)
            ∗ ∃ W', ⌜∀ p ∈ W', p ∈ W ∨ p.2 = none⌝ ∗ owes (tile d i) O W') := by
  obtain ⟨RS, hRS⟩ := ownSems_tile (F := F) d i
  obtain ⟨RB, hRB⟩ := ownBufs_tile (F := F) d i
  rw [(K (F := F)).scopedBufs_V facts d _ _, SparseCore.Cfg.scopedSems0_V (Val := Elt F) d _ _, hRS, hRB]
  unfold piece
  iintro ⟨#Hlv, -, ⟨Hh, Ho, Hp, Ht⟩, ⟨⟨⟨%fP, HsP⟩, ⟨%fT, HsT⟩, ⟨%fR, HsR⟩, ⟨%fB, HsB⟩⟩, HRB⟩, ⟨⟨H4, H5, H6, H7, H8, H9⟩, HRS⟩, HO⟩
  ihave Hmw := ((K (F := F)).mayWaits_none (thr := tile d i) hO) $$ Hlv
  ihave Hh := (h_in d i _).1 $$ Hh
  icases Hh with ⟨Hh0, Hh1⟩
  ihave Ho := (o_in d i _).1 $$ Ho
  icases Ho with ⟨Ho0, Ho1⟩
  ihave Ht := (t_in d i q _).1 $$ Ht
  icases Ht with ⟨Ht, Htr⟩
  ihave HsB := (stage_split d i fB) $$ HsB
  iapply (tile_run 𝒱₀ d i (m (hLoc d)) (pv d) (m (tLoc d)) (m (oLoc d)) q q fB fB fP fT fR O W harg2 harg3 harg4 harg5 harg6 harg7 harg8 harg9 _) $$ [Hmw HO Hh0 Hh1 Ho0 Ho1 HsB Hp HsP Ht HsT HsR H4 H5 H6 H7 H8 H9]
  · isplitl [Hmw]; · iexact Hmw
    isplitl [HO]
    · unfold idle; iexists W; isplitr; · ipureintro; exact fun p hp => Or.inl hp
      iexact HO
    isplitl [Hh0]; · iexact Hh0
    isplitl [Hh1]; · iexact Hh1
    isplitl [Ho0]; · iexact Ho0
    isplitl [Ho1]; · iexact Ho1
    isplitl [HsB]; · iexact HsB
    isplitl [Hp]; · iexact Hp
    isplitl [HsP]; · iexact HsP
    isplitl [Ht]; · iexact Ht
    isplitl [HsT]; · iexact HsT
    isplitl [HsR]; · iexact HsR
    isplitl [H4]; · iexact H4
    isplitl [H5]; · iexact H5
    isplitl [H6]; · iexact H6
    isplitl [H7]; · iexact H7
    isplitl [H8]; · iexact H8
    iexact H9
  iintro HO Hh0 Hh1 Ho0 Ho1 HsB Hp HsP Ht HsT HsR H4 H5 H6 H7 H8 H9
  icases HsB with ⟨%f0, %f1, HsB⟩
  ihave HsB := (stage_join d i f0 f1) $$ HsB
  ihave Ho0 := (wrote_scan m pv d i k0) $$ Ho0
  ihave Ho1 := (wrote_scan m pv d i k1) $$ Ho1
  isplitl [Hh0 Hh1 Ho0 Ho1 Hp Ht Htr]
  · isplitl [Hh0 Hh1]
    · iapply (h_in d i _).2
      isplitl [Hh0]; · iexact Hh0
      iexact Hh1
    isplitl [Ho0 Ho1]
    · iapply (o_in d i _).2
      isplitl [Ho0]; · iexact Ho0
      iexact Ho1
    isplitl [Hp]; · iexact Hp
    iapply (t_in d i q _).2
    isplitl [Ht]; · iexact Ht
    iexact Htr
  isplitl [HsP HsT HsR HsB HRB]
  · isplitr [HRB]
    · isplitl [HsP]; · iexact HsP
      isplitl [HsT]; · iexact HsT
      isplitl [HsR]; · iexact HsR
      iexact HsB
    iexact HRB
  isplitl [H4 H5 H6 H7 H8 H9 HRS]
  · isplitr [HRS]
    · isplitl [H4]; · iexact H4
      isplitl [H5]; · iexact H5
      isplitl [H6]; · iexact H6
      isplitl [H7]; · iexact H7
      isplitl [H8]; · iexact H8
      iexact H9
    iexact HRS
  unfold idle
  iexact HO

end Body

theorem defs₀_vector (c : Fin τ.nSC) (s : Fin τ.nSub) :
    defs₀ (F := F) (.scVector c s) 0 ()
      = SparseCore.onTile hcore0 hsub0 (fun c s => cc0__sc_body (coordsV c s)
          hV (Memref.isWhole_whole _) tV (Memref.isWhole_whole _) pV (Memref.isWhole_whole _) oV (Memref.isWhole_whole _)
          sP (Memref.isWhole_whole _) sT (Memref.isWhole_whole _) sR (Memref.isWhole_whole _) sB (Memref.isWhole_whole _)
          cc0_scratch4 cc0_scratch5 cc0_scratch6 cc0_scratch7 cc0_scoped0 cc0_scoped1) ⟨⟩ c s := rfl

/-- A tile that waited only for its own copies waited for nothing above the call's stage. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %h, HO⟩
  iexists W'
  isplitr; · ipureintro; exact fun p hp => (h p hp).elim Or.inl fun e => Or.inr (Or.inl e)
  iexact HO

theorem tileObl : (K (F := F)).TileObl (D (F := F)) 𝒱 (P m pv) v₀ 0 := by
  intro d c i O W hO _ _
  simp only [show (P m pv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m pv d (coordsV ⟨_, hc.1⟩ ⟨_, hc.2⟩) _ O W hO _ _ _ _ _ _ _ _).trans (wp_mono frame _ _ fun _ => waits_weaken)

end Cert.Proof.KIdeal
-- ==== Proof.Deal.lean ====
module

public import proofs.«01_k».proof.Proof.TileObl

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! # Handing the arrays to the tiles and taking them back -/

variable (m : (ℓ : Loc nD τ sig) → Buf (Elt F) ℓ) (pv : Dev nD → Vec F S16 .f32)

/-- A whole array's share is the tiles' shares. -/
theorem deal_share (ℓ : Loc nD τ sig) (f : Buf (Elt F) ℓ) :
    (ℓ ↦{fullShare} f : sProp 𝕄)
      = bigSep Finset.univ fun c : Fin (grid0.bound 0) => bigSep Finset.univ fun s : Fin (grid0.bound 1) => (ℓ ↦{tileShare c s} f : sProp 𝕄) := by
  unfold tileShare
  rw [Transfers.pointsTo_deal (Finset.univ : Finset (Fin (grid0.bound 0))) ⟨⟨0, by decide⟩, Finset.mem_univ _⟩ fullShare]
  exact bigSep_congr fun c _ => Transfers.pointsTo_deal (Finset.univ : Finset (Fin (grid0.bound 1))) ⟨⟨0, by decide⟩, Finset.mem_univ _⟩ _

/-- Elements cut into disjoint blocks, one per tile, are the blocks. -/
theorem deal_blocks (ℓ : Loc nD τ sig) (f : Buf (Elt F) ℓ) (C : Finset (Idx ℓ)) (B : Fin (grid0.bound 0) × Fin (grid0.bound 1) → Finset (Idx ℓ))
    (hC : Finset.univ.biUnion B = C) (hB : ∀ a b, a ≠ b → Disjoint (B a) (B b)) :
    (ℓ ↦[C]{fullShare} f : sProp 𝕄)
      = bigSep Finset.univ fun c : Fin (grid0.bound 0) => bigSep Finset.univ fun s : Fin (grid0.bound 1) => (ℓ ↦[B (c, s)]{fullShare} f : sProp 𝕄) := by
  subst hC
  rw [pointsTo_biUnion Finset.univ B fun a _ b _ h => hB a b h]
  exact bigSep_univ_prod fun a => (ℓ ↦[B a]{fullShare} f : sProp 𝕄)

/-- The tiles' parts together: the first 512 columns of the input and of the output, the parameters, the times. -/
theorem parts_eq (d : Dev nD) (o : Buf (Elt F) (oLoc d)) :
    (bigSep Finset.univ fun c : Fin (grid0.bound 0) => bigSep Finset.univ fun s : Fin (grid0.bound 1) => part m pv d o c s : sProp 𝕄)
      = iprop((hLoc d ↦[cols]{fullShare} m (hLoc d)) ∗ (oLoc d ↦[cols]{fullShare} o) ∗ (pLoc d ↦{fullShare} (pv d : Buf (Elt F) (pLoc d))) ∗ (tLoc d ↦{fullShare} m (tLoc d))) := by
  rw [deal_blocks (hLoc d) (m (hLoc d)) cols (fun a => blkT (coordsV a.1 a.2)) cols_eq fun a b h => blkT_disjoint a b h,
    deal_blocks (oLoc d) o cols (fun a => blkT (coordsV a.1 a.2)) cols_eq fun a b h => blkT_disjoint a b h,
    deal_share (pLoc d), deal_share (tLoc d)]
  simp only [part, piece, bigSep_sep']

theorem st_eq (d : Dev nD) : (bigSep Finset.univ fun c : Fin ((K (F := F)).nCore 0) => (P m pv).st 0 d c : sProp 𝕄)
    = iprop((hLoc d ↦[cols]{fullShare} m (hLoc d)) ∗ (oLoc d ↦[cols]{fullShare} m (oLoc d)) ∗ (pLoc d ↦{fullShare} (pv d : Buf (Elt F) (pLoc d))) ∗ (tLoc d ↦{fullShare} m (tLoc d))) :=
  parts_eq m pv d (m (oLoc d))

theorem dn_eq (d : Dev nD) : (bigSep Finset.univ fun c : Fin ((K (F := F)).nCore 0) => (P m pv).dn 0 d c : sProp 𝕄)
    = iprop((hLoc d ↦[cols]{fullShare} m (hLoc d)) ∗ (oLoc d ↦[cols]{fullShare} scanOut m pv d) ∗ (pLoc d ↦{fullShare} (pv d : Buf (Elt F) (pLoc d))) ∗ (tLoc d ↦{fullShare} m (tLoc d))) :=
  parts_eq m pv d (scanOut m pv d)

/-- What stays with the TensorCore during the call: the other columns. -/
def stay (d : Dev nD) : sProp 𝕄 :=
  iprop((hLoc d ↦[Finset.univ \ cols]{fullShare} m (hLoc d)) ∗ (oLoc d ↦[Finset.univ \ cols]{fullShare} m (oLoc d)))

/-- The four arrays at the call: the tiles' parts and what stays. -/
theorem call_give (d : Dev nD) :
    iprop((hLoc d ↦{fullShare} m (hLoc d)) ∗ (oLoc d ↦{fullShare} m (oLoc d)) ∗ (pLoc d ↦{fullShare} (pv d : Buf (Elt F) (pLoc d))) ∗ (tLoc d ↦{fullShare} m (tLoc d)))
      ⊢ (iprop((bigSep Finset.univ fun c : Fin ((K (F := F)).nCore 0) => (P m pv).st 0 d c) ∗ stay m d) : sProp 𝕄) := by
  rw [st_eq]; unfold stay
  iintro ⟨Hh, Ho, Hp, Ht⟩
  ihave Hh' := (pointsTo_split_subset (Finset.subset_univ cols)).1 $$ Hh
  icases Hh' with ⟨Hh, Hhr⟩
  ihave Ho' := (pointsTo_split_subset (Finset.subset_univ cols)).1 $$ Ho
  icases Ho' with ⟨Ho, Hor⟩
  isplitl [Hh Ho Hp Ht]
  · isplitl [Hh]; · iexact Hh
    isplitl [Ho]; · iexact Ho
    isplitl [Hp] <;> iassumption
  isplitl [Hhr] <;> iassumption

/-- The four arrays after the call: the output at the scan. -/
theorem call_take (d : Dev nD) :
    (iprop((bigSep Finset.univ fun c : Fin ((K (F := F)).nCore 0) => (P m pv).dn 0 d c) ∗ stay m d) : sProp 𝕄)
      ⊢ iprop((hLoc d ↦{fullShare} m (hLoc d)) ∗ (oLoc d ↦{fullShare} scanOut m pv d) ∗ (pLoc d ↦{fullShare} (pv d : Buf (Elt F) (pLoc d))) ∗ (tLoc d ↦{fullShare} m (tLoc d))) := by
  have hcong : (oLoc d ↦[Finset.univ \ cols]{fullShare} m (oLoc d) : sProp 𝕄) = (oLoc d ↦[Finset.univ \ cols]{fullShare} scanOut m pv d) :=
    pointsTo_congr fun i hi => by
      have h : ¬ (i 2).val < 512 := fun h => (Finset.mem_sdiff.mp hi).2 (by unfold cols; exact Finset.mem_filter.mpr ⟨Finset.mem_univ _, h⟩)
      unfold scanOut scan
      exact (if_neg h).symm
  rw [dn_eq]; unfold stay
  rw [hcong]
  iintro ⟨⟨Hh, Ho, Hp, Ht⟩, Hhr, Hor⟩
  isplitl [Hh Hhr]
  · iapply (pointsTo_split_subset (Finset.subset_univ cols)).2; isplitl [Hh] <;> iassumption
  isplitl [Ho Hor]
  · iapply (pointsTo_split_subset (Finset.subset_univ cols)).2; isplitl [Ho] <;> iassumption
  isplitl [Hp] <;> iassumption

end Cert.Proof.KIdeal
-- ==== Proof.TcBody.lean ====
module

public import proofs.«01_k».proof.Proof.TileObl
public import proofs.«01_k».proof.Proof.Gen.KernelIdeal.Launch
public import proofs.«01_k».proof.Proof.Gen.KernelIdeal.Points
public import proofs.«01_k».proof.Proof.Gen.KernelIdeal.Skeleton
public import Idealize.ShloMosaic.Lib.VecWindow

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! # The TensorCore kernel's body

One grid point of the second kernel: what it leaves in the result's staging buffer, from the staged blocks. -/

/-- What one grid point leaves: from the block of times, the two parameters and the block of the input. -/
def tcBlock (x1 : Vec F S1x512x1 .f32) (x2 : Vec F S1x2 .f32) (x3 : Vec F S1x512x256 .f32) : Vec F S1x512x256 .f32 :=
  k1_pay1 (k1_pay3 (x2 (ix2 0 0)) (x2 (ix2 0 1)) x1) (k1_pay4 (x2 (ix2 0 1)) x1 x3) (k1_pay5 (x2 (ix2 0 1)) x1 x3)

section Body

theorem numel_S1x1_pos : 0 < S1x1.numel := by decide

variable (d : Dev nD) (i : grid1.Coords) (M1 : Memref sig .tc .vmem S1x512x1 .f32) (h1 : M1.IsWhole) (M2 : Memref sig .tc .smem S1x2 .f32) (h2 : M2.IsWhole)
  (M3 : Memref sig .tc .vmem S1x512x256 .f32) (h3 : M3.IsWhole) (M4 : Memref sig .tc .vmem S1x512x256 .f32) (h4 : M4.IsWhole)

/-- A load of a memref's own sizes, of whatever share holds it, reads its contents. -/
theorem wp_load_owned {cs : CoreSpace} {s : Shape} {e : EltTy} {α : Type} {M : Memref sig .tc cs s e} {off : Fin s.rank → ℕ} {inb : ∀ a, off a + s.size a ≤ s.size a}
    {hl : M.view.LoadsAt (Rect.unit off s.size inb).toLoadRect} {k : (s.Idx → Elt F e) → Prog (TpuEff nD τ sig (Elt F) Λ₀ .tc) α} {Q : α → sProp 𝕄} {X : s.Idx → Elt F e} :
    (owns (SparseCore.T d : Thread nD τ) M fullShare X : sProp 𝕄)
      ⊢ iprop((owns (SparseCore.T d : Thread nD τ) M fullShare X -∗ wp frame (wpE (defs₀ (F := F)) 𝒱₀ (SparseCore.T d) none) Set.univ (k X) Q)
        -∗ wp frame (wpE (defs₀ (F := F)) 𝒱₀ (SparseCore.T d) none) Set.univ (.op (.load M (Rect.unit off s.size inb).toLoadRect hl) k) Q) := by
  unfold owns
  iintro ⟨%f, %hf, H⟩ Hk
  iapply (wp_load 𝒱₀ (SparseCore.T d) none Set.univ (m := M) (View.setOn_subset_set _ _)) $$ H; iintro H
  rw [View.readAt_full M.view f inb, hf]
  iapply Hk
  iexists f
  isplitr; · ipureintro; exact hf
  iexact H

/-- A load through a rectangle, of whatever is owned, reads the contents there. -/
theorem wp_word_owned {cs : CoreSpace} {s : Shape} {e : EltTy} {α : Type} {M : Memref sig .tc cs s e} {r : Rect s} {hl : M.view.LoadsAt r.toLoadRect}
    {k : (r.shape.Idx → Elt F e) → Prog (TpuEff nD τ sig (Elt F) Λ₀ .tc) α} {Q : α → sProp 𝕄} {X : s.Idx → Elt F e} :
    (owns (SparseCore.T d : Thread nD τ) M fullShare X : sProp 𝕄)
      ⊢ iprop((owns (SparseCore.T d : Thread nD τ) M fullShare X -∗ wp frame (wpE (defs₀ (F := F)) 𝒱₀ (SparseCore.T d) none) Set.univ (k fun x => X (r.emb x)) Q)
        -∗ wp frame (wpE (defs₀ (F := F)) 𝒱₀ (SparseCore.T d) none) Set.univ (.op (.load M r.toLoadRect hl) k) Q) := by
  unfold owns
  iintro ⟨%f, %hf, H⟩ Hk
  iapply (wp_load 𝒱₀ (SparseCore.T d) none Set.univ (m := M) (View.setOn_subset_set _ _)) $$ H; iintro H
  rw [show M.view.readAt (Elt F) r.toLoadRect f = fun x => X (r.emb x) from funext fun x => congrFun hf (r.emb x)]
  iapply Hk
  iexists f
  isplitr; · ipureintro; exact hf
  iexact H

/-- A memref wholly stored reads the payload. -/
theorem read_stored {cs : Space} {s : Shape} {e : EltTy} (v : View sig .tc cs s e) {off : Fin s.rank → ℕ} (inb : ∀ a, off a + s.size a ≤ s.size a)
    (f : v.ty.Contents (Elt F)) (w : (Rect.unit off s.size inb).shape.Idx → Elt F e) :
    v.read (Elt F) (v.writes (Elt F) f [⟨Rect.unit off s.size inb, w⟩]) = w := by
  funext y
  have hy : (Rect.unit off s.size inb).emb y = y := funext fun a => Fin.ext (by
    show off a + 1 * (y a).val = (y a).val
    have := inb a; omega)
  exact (congrArg (v.read (Elt F) (v.writes (Elt F) f [⟨Rect.unit off s.size inb, w⟩])) hy).symm.trans
    (View.read_slice_write_emb (Rect.unit off s.size inb) f w (Finset.mem_univ y))

/-- A store of a memref's own sizes leaves the payload. -/
theorem wp_store_owned {cs : CoreSpace} {s : Shape} {e : EltTy} {α : Type} {M : Memref sig .tc cs s e} {off : Fin s.rank → ℕ} {inb : ∀ a, off a + s.size a ≤ s.size a}
    {w : (Rect.unit off s.size inb).shape.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} {X : s.Idx → Elt F e} :
    (owns (SparseCore.T d : Thread nD τ) M fullShare X : sProp 𝕄)
      ⊢ iprop((owns (SparseCore.T d : Thread nD τ) M fullShare w -∗ wp frame (wpE (defs₀ (F := F)) 𝒱₀ (SparseCore.T d) none) Set.univ (k ⟨⟩) Q)
        -∗ wp frame (wpE (defs₀ (F := F)) 𝒱₀ (SparseCore.T d) none) Set.univ (.op (.store M (Rect.unit off s.size inb) w Finset.univ hx hm) k) Q) := by
  unfold owns
  iintro ⟨%f, %hf, H⟩ Hk
  iapply (wp_store_writes₀ 𝒱₀ (SparseCore.T d) none Set.univ (m := M) (r := Rect.unit off s.size inb) (View.set_slice_subset _ _)) $$ H; iintro H
  iapply Hk
  iexists (M.view.writes (Elt F) f [⟨Rect.unit off s.size inb, w⟩])
  isplitr
  · ipureintro; exact read_stored M.view inb f w
  iexact H

/-- The two parameter words, as the body's one-word rectangles name them. -/
theorem word0 : (Rect.unit (s := S1x2) ![0, 0] S1x1.size inb_S1x2_S1x1_0_0).emb (Shape.Idx.first (numel_S1x1_pos)) = ix2 0 0 := by
  funext a; match a with | 0 => rfl | 1 => rfl

theorem word1 : (Rect.unit (s := S1x2) ![0, 1] S1x1.size inb_S1x2_S1x1_0_1).emb (Shape.Idx.first (numel_S1x1_pos)) = ix2 0 1 := by
  funext a; match a with | 0 => rfl | 1 => rfl

/-- The body's run: the staged blocks are read, the result's buffer is left at the block's computation. -/
theorem tc_body_run (x1 : Vec F S1x512x1 .f32) (x2 : Vec F S1x2 .f32) (x3 x4 : Vec F S1x512x256 .f32) (Q : PUnit → sProp 𝕄) :
    iprop(owns (SparseCore.T d : Thread nD τ) M1 fullShare x1 ∗ owns (SparseCore.T d : Thread nD τ) M2 fullShare x2 ∗ owns (SparseCore.T d : Thread nD τ) M3 fullShare x3
        ∗ owns (SparseCore.T d : Thread nD τ) M4 fullShare x4
        ∗ (owns (SparseCore.T d : Thread nD τ) M1 fullShare x1 -∗ owns (SparseCore.T d : Thread nD τ) M2 fullShare x2 -∗ owns (SparseCore.T d : Thread nD τ) M3 fullShare x3
            -∗ owns (SparseCore.T d : Thread nD τ) M4 fullShare (tcBlock x1 x2 x3) -∗ Q ⟨⟩))
      ⊢ wp frame (wpE (defs₀ (F := F)) 𝒱₀ (SparseCore.T d) none) Set.univ (cc1__tc_body i M1 h1 M2 h2 M3 h3 M4 h4) Q := by
  unfold tcBlock
  rw [← word0, ← word1, cc1__tc_body_eq_skeleton]
  unfold cc1__tc_body_skel
  rw [k1_part1_eq_skeleton]
  unfold k1_part1_skel
  simp only [smemLoad, smemLoadElt, Prog.lift, Prog.bind_op, Prog.bind_ret, Prog.pure_eq_ret]
  iintro ⟨H1, H2, H3, H4, Hk⟩
  iapply (wp_word_owned d (M := M2)) $$ H2; iintro H2
  iapply (wp_word_owned d (M := M2)) $$ H2; iintro H2
  iapply (wp_load_owned d (M := M1)) $$ H1; iintro H1
  iapply (wp_load_owned d (M := M3)) $$ H3; iintro H3
  iapply (wp_load_owned d (M := M4)) $$ H4; iintro H4
  iapply (wp_store_owned d (M := M4)) $$ H4; iintro H4
  rw [wp_ret]; imodintro
  iapply Hk $$ H1 H2 H3
  iexact H4

end Body

end Cert.Proof.KIdeal
-- ==== Proof.TcRegion.lean ====
module

public import proofs.«01_k».proof.Proof.TcBody
public import Idealize.ShloMosaic.Lib.Pipeline.RegionArraysS
public import Idealize.ShloMosaic.Lib.Pipeline.FrameBody
public import Idealize.ShloMosaic.Lib.Pipeline.Regions

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

open Idealize.ShloMosaic.Pipeline (Dat Cfg Window BodyObligation cellOf)

/-! # The TensorCore kernel over its grid -/

abbrev UU : Type := (URounds (GSem nD τ sig) ℕ) × ((URounds (GSem nD τ sig) Unit) × Counters)

section Region

variable (Ve : Valuation τ sig (Elt F))

/-- The blocks staged at point `t`, of the arrays at `Ve`: the times, the two parameters, the input's columns. -/
abbrev stg0 (t : Fin cfg1.N) : Vec F S1x512x1 .f32 := ((cfg1.win 0).blk t).view.read (Elt F) (Ve (Proc.devRef .tc (Pipeline.arrRef spec1 0)))
abbrev stg1 (t : Fin cfg1.N) : Vec F S1x2 .f32 := ((cfg1.win 1).blk t).view.read (Elt F) (Ve (Proc.devRef .tc (Pipeline.arrRef spec1 1)))
abbrev stg2 (t : Fin cfg1.N) : Vec F S1x512x256 .f32 := ((cfg1.win 2).blk t).view.read (Elt F) (Ve (Proc.devRef .tc (Pipeline.arrRef spec1 2)))

/-- What the pipeline's rule is told: the arrays at `Ve`, the staged blocks left in place, the result's block computed from them. -/
def dat (c : Dev nD) : Dat τ (Elt F) (HIx 1) ℕ UU ℕ cfg1 c where
  A w := Ve (Proc.devRef .tc (Pipeline.arrRef spec1 w))
  after w t := match w with
    | ⟨0, _⟩ => stg0 Ve t
    | ⟨1, _⟩ => stg1 Ve t
    | ⟨2, _⟩ => stg2 Ve t
    | ⟨3, _⟩ => tcBlock (stg0 Ve t) (stg1 Ve t) (stg2 Ve t)
  Φ _ := Pipeline.scopedRest (Ix := HIx 1) (Name := ℕ) (U := UU) (Lvl := ℕ) (Val := Elt F) spec1 c
  q _ := fullShare
  owed _ := 0

theorem before0 (c : Dev nD) (t : Fin cfg1.N) (d : (cfg1.win 0).block.Idx → Elt F (cfg1.win 0).elt) : (dat Ve c).before 0 t d = stg0 Ve t :=
  (dat Ve c).before_in_eq_fetched 0 rfl (fun _ => rfl) (fun _ _ _ => rfl) (fun _ => rfl) t d

theorem before1 (c : Dev nD) (t : Fin cfg1.N) (d : (cfg1.win 1).block.Idx → Elt F (cfg1.win 1).elt) : (dat Ve c).before 1 t d = stg1 Ve t :=
  (dat Ve c).before_in_eq_fetched 1 rfl (fun _ => rfl) (fun _ _ _ => rfl) (fun _ => rfl) t d

theorem before2 (c : Dev nD) (t : Fin cfg1.N) (d : (cfg1.win 2).block.Idx → Elt F (cfg1.win 2).elt) : (dat Ve c).before 2 t d = stg2 Ve t :=
  (dat Ve c).before_in_eq_fetched 2 rfl (fun _ => rfl) (fun _ _ _ => rfl) (fun _ => rfl) t d

theorem body_obligation (c : Dev nD) : BodyObligation (dat Ve c) (defs₀ (F := F)) 𝒱₀ (none : HIx 1) Set.univ := fun t => by
  rw [bigSep_W1, bigSep_W1]
  simp only [before0, before1, before2]
  rw [show (dat Ve c).Φ t.succ = (dat Ve c).Φ t.castSucc from rfl,
    show (dat Ve c).owesAt none t.succ = (dat Ve c).owesAt none t.castSucc from rfl]
  iintro ⟨HΦ, Howes, ⟨%d0, H0⟩, ⟨%d1, H1⟩, ⟨%d2, H2⟩, ⟨%d3, H3⟩⟩
  iapply (tc_body_run c (grid1.coords t) _ _ _ _ _ _ _ _ (stg0 Ve t) (stg1 Ve t) (stg2 Ve t) ((dat Ve c).before 3 t d3) _)
  isplitl [H0]; · iexact H0
  isplitl [H1]; · iexact H1
  isplitl [H2]; · iexact H2
  isplitl [H3]; · iexact H3
  iintro H0 H1 H2 H3
  isplitl [HΦ]; · iexact HΦ
  isplitl [Howes]; · iexact Howes
  isplitl [H0]; · iexact H0
  isplitl [H1]; · iexact H1
  isplitl [H2]; · iexact H2
  iexact H3

variable (adm : (p : Fin 1) → (pcfgs (F := F) p).Adm)

abbrev pdats : (p : Fin 1) → (c : Dev nD) → Dat τ (Elt F) (HIx 1) ℕ UU ℕ (Pipeline.pin (pcfgs (F := F)) adm p) c
  | ⟨0, _⟩ => fun c => dat Ve c

set_option backward.isDefEq.respectTransparency.types false in
theorem scoped_in (c : Dev nD) :
    iprop(Pipeline.scopedRest (Pipeline.pin (pcfgs (F := F)) adm 0).spec c ∗ (BI.emp : sProp 𝕄)) ⊢ (pdats Ve adm 0 c).Φ 0 := by
  rw [show (pdats Ve adm 0 c).Φ 0 = Pipeline.scopedRest spec1 c from rfl]
  iintro ⟨H, -⟩; iexact H

set_option backward.isDefEq.respectTransparency.types false in
theorem scoped_out (c : Dev nD) :
    (pdats Ve adm 0 c).Φ (Fin.last (Pipeline.pin (pcfgs (F := F)) adm 0).N) ⊢ iprop(Pipeline.scopedRest (Pipeline.pin (pcfgs (F := F)) adm 0).spec c ∗ (BI.emp : sProp 𝕄)) := by
  rw [show (pdats Ve adm 0 c).Φ (Fin.last _) = Pipeline.scopedRest spec1 c from rfl]
  iintro H
  isplitl [H]; · iexact H
  iempintro

set_option backward.isDefEq.respectTransparency.types false in
/-- The kernel as a region of the program: entered from the buffers `S` at `Ve`, left with its result written. -/
def region (S : Finset (DevRef τ sig)) (R : Dev nD → sProp 𝕄) :
    Pipeline.RegionSeg (pcfgs (F := F)) adm (pdats Ve adm) (none : HIx 1) defs₀ 𝒱₀ (K (F := F)).L (K (F := F)).lev 0 :=
  Pipeline.RegionSeg.ofHeldIn (pcfgs (F := F)) adm (pdats Ve adm) none defs₀ 𝒱₀ (K (F := F)).L (K (F := F)).lev 0 (fun _ => 0) S (fun _ => BI.emp) (fun _ => BI.emp)
    launch1.toP rfl (fun c => (body_obligation Ve c).loose) (fun _ _ => rfl) (fun _ => rfl) (fun c w => (pdats Ve adm 0 c).share_full (fun _ => rfl) w)
    (fun c => scoped_in Ve adm c) (fun c => scoped_out Ve adm c)
    (fun _ => 0) ⟨fun _ _ _ => Finset.mem_univ _, fun _ _ _ => le_rfl, fun _ _ _ h => absurd h (lt_irrefl _)⟩ R (fun _ => Ve) (fun _ _ => rfl)

end Region

end Cert.Proof.KIdeal
-- ==== Proof.Vals.lean ====
module

public import proofs.«01_k».proof.Proof.Deal
public import proofs.«01_k».proof.Proof.TcRegion

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! # What every array holds, step by step of the program -/

abbrev op1 : HloOp τ sig (Elt F) := StableHlo.nullary main_cst (constant S_ .f32 0x00000000#32)
abbrev op2 : HloOp τ sig (Elt F) := StableHlo.unary main_cst main_v0 (broadcastInDim S16 ![] bcast_S_S16 : (⟨S_, .f32⟩ : BufTy).Contents (Elt F) → (⟨S16, .f32⟩ : BufTy).Contents (Elt F))
abbrev op3 : HloOp τ sig (Elt F) := StableHlo.nullary main_c (constantI S_ 32 1#32)
abbrev op4 : HloOp τ sig (Elt F) := StableHlo.unary main_c main_v1 (broadcastInDim S1 ![] bcast_S_S1 : (⟨S_, .i32⟩ : BufTy).Contents (Elt F) → (⟨S1, .i32⟩ : BufTy).Contents (Elt F))
abbrev op5 : HloOp τ sig (Elt F) := StableHlo.ternary main_v0 main_v1 main_arg2 main_v2 ((fun x i u => Host.scatter scatter_S16_S1_S__n_0_0_0 (fun _ b => b) x i u) : (⟨S16, .f32⟩ : BufTy).Contents (Elt F) → (⟨S1, .i32⟩ : BufTy).Contents (Elt F) → (⟨S_, .f32⟩ : BufTy).Contents (Elt F) → (⟨S16, .f32⟩ : BufTy).Contents (Elt F))
abbrev op6 : HloOp τ sig (Elt F) := StableHlo.nullary main_c_0 (constantI S_ 32 2#32)
abbrev op7 : HloOp τ sig (Elt F) := StableHlo.unary main_c_0 main_v3 (broadcastInDim S1 ![] bcast_S_S1 : (⟨S_, .i32⟩ : BufTy).Contents (Elt F) → (⟨S1, .i32⟩ : BufTy).Contents (Elt F))
abbrev op8 : HloOp τ sig (Elt F) := StableHlo.ternary main_v2 main_v3 main_arg3 main_v4 ((fun x i u => Host.scatter scatter_S16_S1_S__n_0_0_0 (fun _ b => b) x i u) : (⟨S16, .f32⟩ : BufTy).Contents (Elt F) → (⟨S1, .i32⟩ : BufTy).Contents (Elt F) → (⟨S_, .f32⟩ : BufTy).Contents (Elt F) → (⟨S16, .f32⟩ : BufTy).Contents (Elt F))
abbrev op9 : HloOp τ sig (Elt F) := StableHlo.unary main_arg1 main_v6 (broadcastInDim S8x512x1 ![0, 1] bcast_S8x512_S8x512x1_0_1 : (⟨S8x512, .f32⟩ : BufTy).Contents (Elt F) → (⟨S8x512x1, .f32⟩ : BufTy).Contents (Elt F))
abbrev op10 : HloOp τ sig (Elt F) := StableHlo.unary main_v4 main_v7 ((extractStridedSlice S2 ![1] · slices_S16_S2_1) : (⟨S16, .f32⟩ : BufTy).Contents (Elt F) → (⟨S2, .f32⟩ : BufTy).Contents (Elt F))
abbrev op11 : HloOp τ sig (Elt F) := StableHlo.unary main_v7 main_v8 (broadcastInDim S1x2 ![1] bcast_S2_S1x2_1 : (⟨S2, .f32⟩ : BufTy).Contents (Elt F) → (⟨S1x2, .f32⟩ : BufTy).Contents (Elt F))
abbrev op12 : HloOp τ sig (Elt F) := StableHlo.nullary main_c_1 (constantI S_ 32 0#32)
abbrev op13 : HloOp τ sig (Elt F) := StableHlo.nullary main_c_2 (constantI S_ 32 0#32)
abbrev op14 : HloOp τ sig (Elt F) := StableHlo.nullary main_c_3 (constantI S_ 32 512#32)
abbrev op15 : HloOp τ sig (Elt F) := StableHlo.binaryIndexed main_v5 main_v9 ![main_c_1, main_c_2, main_c_3] ⟨S_, .i32⟩ main_v10 ((fun x u i => Host.dynamicUpdateSlice x u (fun k => (i k (Shape.Idx.first h_S_)).toInt) updateFits_S8x512x768_S8x512x256) : (⟨S8x512x768, .f32⟩ : BufTy).Contents (Elt F) → (⟨S8x512x256, .f32⟩ : BufTy).Contents (Elt F) → (Fin 3 → (⟨S_, .i32⟩ : BufTy).Contents (Elt F)) → (⟨S8x512x768, .f32⟩ : BufTy).Contents (Elt F))

/-- The TensorCore's arrays. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (SparseCore.T d : Thread nD τ) ucRefs W := by
  unfold unscopedBufs StableHlo.held ucRefs StableHlo.tcRefs
  rw [Finset.filter_map, bigSep_map]
  rfl

/-- An operation over unscoped buffers works within the TensorCore's arrays. -/
theorem mem_uc (r : Ref sig .tc) (h : r.isScoped = false) : (Proc.devRef .tc r : DevRef τ sig) ∈ ucRefs := by
  unfold ucRefs StableHlo.tcRefs
  refine Finset.mem_filter.mpr ⟨Finset.mem_map.mpr ⟨r, Finset.mem_univ _, rfl⟩, ?_⟩
  rw [show (Proc.devRef .tc r : DevRef τ sig).isScoped = r.isScoped from rfl, h]
  exact Bool.false_ne_true

theorem sub_nullary (y : Ref sig .tc) (v) (hy) (h : y.isScoped = false) : (StableHlo.nullary (τ := τ) (Val := Elt F) y v hy).bufs ⊆ ucRefs :=
  Finset.singleton_subset_iff.mpr (mem_uc y h)
theorem sub_unary (x y : Ref sig .tc) (f) (hx) (hy) (h : x.isScoped = false) (h' : y.isScoped = false) :
    (StableHlo.unary (τ := τ) (Val := Elt F) x y f hx hy).bufs ⊆ ucRefs :=
  Finset.insert_subset (mem_uc x h) (Finset.singleton_subset_iff.mpr (mem_uc y h'))
theorem sub_ternary (c a b y : Ref sig .tc) (f) (hc) (ha) (hb) (hy) (h1 : c.isScoped = false) (h2 : a.isScoped = false) (h3 : b.isScoped = false) (h4 : y.isScoped = false) :
    (StableHlo.ternary (τ := τ) (Val := Elt F) c a b y f hc ha hb hy).bufs ⊆ ucRefs :=
  Finset.insert_subset (mem_uc c h1) (Finset.insert_subset (mem_uc a h2) (Finset.insert_subset (mem_uc b h3) (Finset.singleton_subset_iff.mpr (mem_uc y h4))))
theorem sub15 : (op15 (F := F)).bufs ⊆ ucRefs :=
  Finset.insert_subset (mem_uc main_v5 rfl) (Finset.insert_subset (mem_uc main_v9 rfl) (Finset.insert_subset (mem_uc main_v10 rfl)
    (Finset.image_subset_iff.mpr fun k _ => mem_uc _ (by revert k; decide))))

variable (m : (ℓ : Loc nD τ sig) → Buf (Elt F) ℓ)

/-- The arrays at the launch. -/
def Vlaunch (d : Dev nD) : Valuation τ sig (Elt F) := fun b => m (d, b)
/-- The arrays at the scan's call: the sixteen parameters are set. -/
def Vpre (d : Dev nD) : Valuation τ sig (Elt F) :=
  (op8).result ((op7).result ((op6).result ((op5).result ((op4).result ((op3).result ((op2).result ((op1).result (Vlaunch m d))))))))
/-- The parameters the scan reads. -/
def pvOf (d : Dev nD) : Vec F S16 .f32 := Vpre m d (Proc.devRef .tc main_v4)
/-- The arrays after the scan. -/
def Vscan (d : Dev nD) : Valuation τ sig (Elt F) := Function.update (Vpre m d) (Proc.devRef .tc main_v5) (scanOut m (pvOf m) d)
/-- The arrays at the TensorCore's kernel. -/
def Vmid (d : Dev nD) : Valuation τ sig (Elt F) := (op11).result ((op10).result ((op9).result (Vscan m d)))

/-- The windows' blocks tile the arrays. -/
abbrev admAll : (p : Fin 1) → ((pcfgs (F := F)) p).Adm := fun p => (cfgs p).toPCfg_adm

/-- The arrays after the TensorCore's kernel. -/
def Vreg (d : Dev nD) : Valuation τ sig (Elt F) := Pipeline.afterRegion (pdats (Vmid m d) admAll 0 d) (Vmid m d)
/-- The arrays at the end. -/
def Vend (d : Dev nD) : Valuation τ sig (Elt F) := (op15).result ((op14).result ((op13).result ((op12).result (Vreg m d))))

end Cert.Proof.KIdeal
-- ==== Proof.TcStep.lean ====
module

public import proofs.«01_k».proof.Proof.Vals

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! # The TensorCore's program -/

variable (m : (ℓ : Loc nD τ sig) → Buf (Elt F) ℓ) (ρ : Dev nD → PrngReg)

/-- The pipeline's component of the ghost state. -/
def EP : Emb (URounds (GSem nD τ sig) Unit) 𝕄 := (Emb.inl : Emb (URounds (GSem nD τ sig) Unit) ((URounds (GSem nD τ sig) Unit) × Counters)).trans embR
instance EP_landsIn : (EP : Emb (URounds (GSem nD τ sig) Unit) 𝕄).LandsIn (upEmb : UEmb _ 𝕄) := by unfold EP; infer_instance

/-- The ghost state device `d`'s pipeline starts from. -/
def ghost (d : Dev nD) : sProp 𝕄 :=
  iprop(Pipeline.cellsGhost (Pipeline.pin (pcfgs (F := F)) admAll) EP 0 d ∗ Pipeline.toksInit (Pipeline.pin (pcfgs (F := F)) admAll) EP 0 d)

/-- The launch's ghost element. -/
def u₀ : UU := (initOf (K (F := F)).hsCells (K (F := F)).hsToks,
  (initOf (Pipeline.cells (Pipeline.pin (pcfgs (F := F)) admAll) cellOf_inj) (Pipeline.launchToks (Pipeline.pin (pcfgs (F := F)) admAll) cellOf_inj), 1))

theorem hu₀ (pv : Dev nD → Vec F S16 .f32) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m pv).x q thr) := by
  have hsplit : ∀ (c : Dev nD), (bigSep Finset.univ fun p : Fin 1 => Pipeline.cellsGhost (Pipeline.pin (pcfgs (F := F)) admAll) EP p c : sProp 𝕄)
      = Pipeline.cellsGhost (Pipeline.pin (pcfgs (F := F)) admAll) EP 0 c := fun c => bigSep_univ_of_subsingleton (0 : Fin 1)
  have hsplit' : ∀ (c : Dev nD), (bigSep Finset.univ fun p : Fin 1 => Pipeline.toksInit (Pipeline.pin (pcfgs (F := F)) admAll) EP p c : sProp 𝕄)
      = Pipeline.toksInit (Pipeline.pin (pcfgs (F := F)) admAll) EP 0 c := fun c => bigSep_univ_of_subsingleton (0 : Fin 1)
  have hx : (bigSep Finset.univ fun thr : Thread nD τ => bigSep Finset.univ fun q : Fin 1 => (P m pv).x q thr) = (BI.emp : sProp 𝕄) := by
    show (bigSep Finset.univ fun thr : Thread nD τ => bigSep Finset.univ fun q : Fin 1 => (BI.emp : sProp 𝕄)) = BI.emp
    simp only [bigSep_emp_const]
  unfold u₀ ghost
  rw [hx, bigSep_sep']
  iintro Hu
  ihave H := (ownU_pair _ _) $$ Hu
  icases H with ⟨HH, HR⟩
  ihave H := (own_pair_emb embR _ _) $$ HR
  icases H with ⟨HP, -⟩
  imod (show _ ⊢ _ from Pipeline.fund_ghost (Pipeline.pin (pcfgs (F := F)) admAll) ((Emb.inl : Emb (URounds (GSem nD τ sig) Unit) ((URounds (GSem nD τ sig) Unit) × Counters)).trans (embR : Emb _ 𝕄)) cellOf_inj) $$ HP with ⟨HC, HT⟩
  imodintro
  isplitl [HH]; · iexact HH
  isplitl [HC HT]
  · isplitl [HC]
    · iapply (Entails.of_eq (bigSep_congr fun c _ => hsplit c)); iexact HC
    · iapply (Entails.of_eq (bigSep_congr fun c _ => hsplit' c)); iexact HT
  · iempintro

/-- The windows' arrays are among the TensorCore's. -/
theorem arrs_sub : Pipeline.arrRefs ((pcfgs (F := F)) 0).spec ⊆ ucRefs := by
  intro b hb
  obtain ⟨r, hr, rfl⟩ := Finset.mem_map.mp hb
  obtain ⟨w, -, rfl⟩ := Finset.mem_image.mp hr
  exact mem_uc _ ((show ∀ w, (Pipeline.arrRef spec1 w).isScoped = false by decide) w)

set_option backward.isDefEq.respectTransparency.types false in
/-- The TensorCore's kernel, run from the arrays at `Ve`. -/
theorem tc_step [∀ e, Nonempty (Elt F e)] (κ : GSem nD τ sig → ℕ) (pv : Dev nD → Vec F S16 .f32) (Ve : Valuation τ sig (Elt F)) (d : Dev nD)
    (Q : PUnit → sProp 𝕄) :
    iprop((K (F := F)).ctx EH (P m pv) κ ∗ ghost (F := F) d ∗ boundary (SparseCore.T d : Thread nD τ) ∗ StableHlo.held (SparseCore.T d : Thread nD τ) ucRefs Ve
        ∗ (∃ W, owes (SparseCore.T d : Thread nD τ) 0 W))
      ⊢ iprop((iprop(boundary (SparseCore.T d : Thread nD τ) ∗ StableHlo.held (SparseCore.T d : Thread nD τ) ucRefs (Pipeline.afterRegion (pdats Ve admAll 0 d) Ve)
          ∗ (∃ W, owes (SparseCore.T d : Thread nD τ) 0 W)) -∗ Q ⟨⟩)
        -∗ wp frame (wpE ((K (F := F)).defs (D (F := F))) 𝒱 (SparseCore.T d) none) Set.univ
            (Prog.lift (.customCall (SparseCore.inner (Pipeline.entry 0)) ())) Q) := by
  iintro ⟨#Hctx, Hg, Hb, Hh, HO⟩ HQ
  iapply ((K (F := F)).wp_liftProg (D (F := F)) 𝒱 (SparseCore.T d) Set.univ none (.op (.customCall (Pipeline.entry 0) ()) .ret) Q)
  iapply (Pipeline.RegionSeg.wp (pcfgs (F := F)) admAll (pdats Ve admAll) none cellOf_inj EP defs₀ 𝒱₀ (K (F := F)).L (K (F := F)).lev
    (region Ve admAll ucRefs fun _ => BI.emp) d none (fun _ h => absurd h (Option.not_mem_none _)) .ret Q)
  unfold ghost
  icases Hg with ⟨Hc, Ht⟩
  isplitl [HQ]
  · iintro ⟨Hb, Hpost⟩
    rw [wp_ret]; imodintro
    iapply HQ
    isplitl [Hb]; · iexact Hb
    unfold region
    ihave H := (Pipeline.RegionSeg.ofHeldIn_post (hS := arrs_sub) d) $$ Hpost
    icases H with ⟨Hh, HO, -⟩
    isplitl [Hh] <;> iassumption
  isplitl [Hb]; · iexact Hb
  isplitl [Hh HO]
  · unfold region
    iapply (Pipeline.RegionSeg.ofHeldIn_pre (hS := arrs_sub) d)
    isplitl [Hh]; · iexact Hh
    isplitl [HO]; · iexact HO
    isplitl []; · iempintro
    iempintro
  isplitr; · iapply ((K (F := F)).ctx_levAts κ); iexact Hctx
  isplitl [Hc] <;> iassumption

end Cert.Proof.KIdeal
-- ==== Proof.Main.lean ====
module

public import proofs.«01_k».proof.Proof.TcStep

@[expose] public section

noncomputable section

namespace Cert.Proof.KIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ ((URounds (GSem nD τ sig) ℕ) × ((URounds (GSem nD τ sig) Unit) × Counters)) ℕ

/-! # The whole program's run -/

variable (m : (ℓ : Loc nD τ sig) → Buf (Elt F) ℓ) (ρ : Dev nD → PrngReg)

/-- The four arrays of the scan's call. -/
def callRefs : Finset (DevRef τ sig) :=
  {Proc.devRef .tc main_arg0, Proc.devRef .tc main_v5, Proc.devRef .tc main_v4, Proc.devRef .tc main_arg1}

theorem callRefs_sub : callRefs ⊆ ucRefs := by
  intro b hb
  unfold callRefs at hb
  simp only [Finset.mem_insert, Finset.mem_singleton] at hb
  rcases hb with h | h | h | h <;> subst h <;> exact mem_uc _ rfl

theorem held_call (d : Dev nD) (V : Valuation τ sig (Elt F)) :
    (StableHlo.held (SparseCore.T d : Thread nD τ) callRefs V : sProp 𝕄)
      = iprop((hLoc d ↦{fullShare} V (Proc.devRef .tc main_arg0)) ∗ (oLoc d ↦{fullShare} V (Proc.devRef .tc main_v5))
          ∗ (pLoc d ↦{fullShare} V (Proc.devRef .tc main_v4)) ∗ (tLoc d ↦{fullShare} V (Proc.devRef .tc main_arg1))) := by
  unfold StableHlo.held callRefs
  rw [SparseCore.bigSep_insert' (by decide), SparseCore.bigSep_insert' (by decide), SparseCore.bigSep_insert' (by decide), bigSep_singleton]

/-- Setting the parameters leaves every other array. -/
theorem Vpre_of_ne (d : Dev nD) (r : Ref sig .tc) (h : r ≠ main_cst ∧ r ≠ main_v0 ∧ r ≠ main_c ∧ r ≠ main_v1 ∧ r ≠ main_v2 ∧ r ≠ main_c_0 ∧ r ≠ main_v3 ∧ r ≠ main_v4) :
    Vpre m d (Proc.devRef .tc r) = m (d, Proc.devRef .tc r) := by
  obtain ⟨h1, h2, h3, h4, h5, h6, h7, h8⟩ := h
  unfold Vpre
  rw [StableHlo.ternary_result_ne' (h := h8), StableHlo.unary_result_ne' (h := h7), StableHlo.nullary_result_ne' (h := h6),
    StableHlo.ternary_result_ne' (h := h5), StableHlo.unary_result_ne' (h := h4), StableHlo.nullary_result_ne' (h := h3),
    StableHlo.unary_result_ne' (h := h2), StableHlo.nullary_result_ne' (h := h1)]
  rfl

theorem held_pre (d : Dev nD) : (StableHlo.held (SparseCore.T d : Thread nD τ) callRefs (Vpre m d) : sProp 𝕄)
      = iprop((hLoc d ↦{fullShare} m (hLoc d)) ∗ (oLoc d ↦{fullShare} m (oLoc d)) ∗ (pLoc d ↦{fullShare} (pvOf m d : Buf (Elt F) (pLoc d))) ∗ (tLoc d ↦{fullShare} m (tLoc d))) := by
  rw [held_call, Vpre_of_ne m d main_arg0 (by decide), Vpre_of_ne m d main_v5 (by decide), Vpre_of_ne m d main_arg1 (by decide)]
  rfl

theorem Vscan_of_ne (d : Dev nD) (r : Ref sig .tc) (h : r ≠ main_v5) : Vscan m d (Proc.devRef .tc r) = Vpre m d (Proc.devRef .tc r) :=
  Function.update_of_ne (fun e => h (Proc.devRef_injective _ e)) _ _

theorem held_scan (d : Dev nD) : (StableHlo.held (SparseCore.T d : Thread nD τ) callRefs (Vscan m d) : sProp 𝕄)
      = iprop((hLoc d ↦{fullShare} m (hLoc d)) ∗ (oLoc d ↦{fullShare} scanOut m (pvOf m) d) ∗ (pLoc d ↦{fullShare} (pvOf m d : Buf (Elt F) (pLoc d))) ∗ (tLoc d ↦{fullShare} m (tLoc d))) := by
  rw [held_call, Vscan_of_ne m d main_arg0 (by decide), Vscan_of_ne m d main_v4 (by decide), Vscan_of_ne m d main_arg1 (by decide),
    Vpre_of_ne m d main_arg0 (by decide), Vpre_of_ne m d main_arg1 (by decide)]
  unfold Vscan
  rw [Function.update_self]
  rfl

/-- The arrays the call leaves alone. -/
theorem held_rest (d : Dev nD) : (StableHlo.held (SparseCore.T d : Thread nD τ) (ucRefs \ callRefs) (Vpre m d) : sProp 𝕄)
      = StableHlo.held (SparseCore.T d : Thread nD τ) (ucRefs \ callRefs) (Vscan m d) :=
  StableHlo.held_congr _ fun b hb => (Function.update_of_ne (fun e => (Finset.mem_sdiff.mp hb).2 (by rw [e]; unfold callRefs; decide)) _ _).symm

/-- The scan's call, over the TensorCore's arrays. -/
theorem scan_step (κ : GSem nD τ sig → ℕ) (d : Dev nD) (Q : PUnit → sProp 𝕄) :
    iprop((K (F := F)).ctx EH (P m (pvOf m)) κ ∗ (K (F := F)).tcSt EH d 0 ∗ StableHlo.held (SparseCore.T d : Thread nD τ) ucRefs (Vpre m d))
      ⊢ iprop((iprop((K (F := F)).tcSt EH d 1 ∗ StableHlo.held (SparseCore.T d : Thread nD τ) ucRefs (Vscan m d)) -∗ Q ⟨⟩)
        -∗ wp frame (wpE ((K (F := F)).defs (D (F := F))) 𝒱 (SparseCore.T d) none) Set.univ ((sc (F := F)).run d 0) Q) := by
  rw [StableHlo.held_sub_split _ callRefs_sub (Vpre m d), held_pre, held_rest]
  iintro ⟨#Hctx, Hst, Hh, Hr⟩ HQ
  ihave Hg := (call_give m (pvOf m) d) $$ Hh
  icases Hg with ⟨Hs, Hstay⟩
  iapply ((K (F := F)).wp_run (D (F := F)) 𝒱 (EH := EH) (P := P m (pvOf m)) κ d 0)
  isplitr; · iexact Hctx
  isplitl [Hst]; · iexact Hst
  isplitl [Hs]; · iexact Hs
  iintro ⟨Hst, Hdn⟩
  iapply HQ
  isplitl [Hst]; · iexact Hst
  ihave H := (call_take m (pvOf m) d) $$ [Hdn Hstay]
  · isplitl [Hdn] <;> iassumption
  iapply (Entails.of_eq (StableHlo.held_sub_split (SparseCore.T d : Thread nD τ) callRefs_sub (Vscan m d)).symm)
  isplitl [H]
  · iapply (Entails.of_eq (held_scan m d).symm); iexact H
  · iexact Hr

/-- No level is above the bound after the one call, and nothing is owed. -/
theorem wbelow_one (d : Dev nD) (W : Waits sig (HIx 1)) : (K (F := F)).WBelow (SparseCore.T d) W (8 * SparseCore.Cfg.Blocks.fst (Q := 1) (N := 1) 1) := by
  intro p _
  have hpl : ∀ g : GSem nD τ sig, (K (F := F)).place g ≤ 6 := by
    rintro ⟨⟨d', p'⟩, l⟩
    unfold SparseCore.Cfg.place
    cases p' <;> cases l <;> simp only <;> (try split_ifs) <;> omega
  show (K (F := F)).lev _ p.2 ≤ 8
  rcases p with ⟨l, _ | q⟩
  · exact Nat.zero_le _
  · have := hpl (SparseCore.T d, l)
    have hq : q.val = 0 := by omega
    show 8 * q.val + (K (F := F)).place (SparseCore.T d, l) + 1 ≤ 8
    omega

theorem owed_one (d : Dev nD) : (K (F := F)).Otc d 1 = 0 := by
  unfold SparseCore.Cfg.Otc
  exact Finset.sum_eq_zero fun q _ => if_neg (by omega)

/-- What the TensorCore ends with. -/
def FIN (d : Dev nD) : sProp 𝕄 := StableHlo.held (SparseCore.T d : Thread nD τ) ucRefs (Vend m d)

theorem hmain [∀ e, Nonempty (Elt F e)] (κ : GSem nD τ sig → ℕ) (d : Dev nD) :
    iprop((K (F := F)).ctx EH (P m (pvOf m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [show (unscopedBufs d (fun b => m ((SparseCore.T d : Thread nD τ).loc b)) : sProp 𝕄) = _ from unscopedBufs_held d (Vlaunch m d)]
  simp only [main, wp_bind, wp_pure]
  iintro ⟨#Hctx, Hst, ⟨Hb, Hh, Hts, -⟩, Hg⟩
  ihave H : iprop(boundary (SparseCore.T d : Thread nD τ) ∗ StableHlo.held (SparseCore.T d : Thread nD τ) ucRefs (Vlaunch m d)) $$ [Hb Hh]
  · isplitl [Hb] <;> iassumption
  iapply (StableHlo.wp_hlo_within 𝒱 (SparseCore.T d) none Set.univ (op := op1) (sub_nullary _ _ _ rfl)) $$ H; iintro H; rw [wp_ret]; imodintro
  iapply (StableHlo.wp_hlo_within 𝒱 (SparseCore.T d) none Set.univ (op := op2) (sub_unary _ _ _ _ _ rfl rfl)) $$ H; iintro H; rw [wp_ret]; imodintro
  iapply (StableHlo.wp_hlo_within 𝒱 (SparseCore.T d) none Set.univ (op := op3) (sub_nullary _ _ _ rfl)) $$ H; iintro H; rw [wp_ret]; imodintro
  iapply (StableHlo.wp_hlo_within 𝒱 (SparseCore.T d) none Set.univ (op := op4) (sub_unary _ _ _ _ _ rfl rfl)) $$ H; iintro H; rw [wp_ret]; imodintro
  iapply (StableHlo.wp_hlo_within 𝒱 (SparseCore.T d) none Set.univ (op := op5) (sub_ternary _ _ _ _ _ _ _ _ _ rfl rfl rfl rfl)) $$ H; iintro H; rw [wp_ret]; imodintro
  iapply (StableHlo.wp_hlo_within 𝒱 (SparseCore.T d) none Set.univ (op := op6) (sub_nullary _ _ _ rfl)) $$ H; iintro H; rw [wp_ret]; imodintro
  iapply (StableHlo.wp_hlo_within 𝒱 (SparseCore.T d) none Set.univ (op := op7) (sub_unary _ _ _ _ _ rfl rfl)) $$ H; iintro H; rw [wp_ret]; imodintro
  iapply (StableHlo.wp_hlo_within 𝒱 (SparseCore.T d) none Set.univ (op := op8) (sub_ternary _ _ _ _ _ _ _ _ _ rfl rfl rfl rfl)) $$ H; iintro ⟨Hb, Hh⟩; rw [wp_ret]; imodintro
  iapply (scan_step m κ d _) $$ [Hst Hh]
  · isplitr; · iexact Hctx
    isplitl [Hst]; · iexact Hst
    iexact Hh
  iintro ⟨Hst, Hh⟩
  ihave H : iprop(boundary (SparseCore.T d : Thread nD τ) ∗ StableHlo.held (SparseCore.T d : Thread nD τ) ucRefs (Vscan m d)) $$ [Hb Hh]
  · isplitl [Hb] <;> iassumption
  iapply (StableHlo.wp_hlo_within 𝒱 (SparseCore.T d) none Set.univ (op := op9) (sub_unary _ _ _ _ _ rfl rfl)) $$ H; iintro H; rw [wp_ret]; imodintro
  iapply (StableHlo.wp_hlo_within 𝒱 (SparseCore.T d) none Set.univ (op := op10) (sub_unary _ _ _ _ _ rfl rfl)) $$ H; iintro H; rw [wp_ret]; imodintro
  iapply (StableHlo.wp_hlo_within 𝒱 (SparseCore.T d) none Set.univ (op := op11) (sub_unary _ _ _ _ _ rfl rfl)) $$ H; iintro ⟨Hb, Hh⟩; rw [wp_ret]; imodintro
  unfold SparseCore.Cfg.tcSt
  rw [owed_one]
  icases Hst with ⟨HO, Hst⟩
  icases HO with ⟨%W, -, HO⟩
  iapply (tc_step m κ (pvOf m) (Vmid m d) d _) $$ [Hg Hb Hh HO]
  · isplitr; · iexact Hctx
    isplitl [Hg]; · iexact Hg
    isplitl [Hb]; · iexact Hb
    isplitl [Hh]; · iexact Hh
    iexists W; iexact HO
  iintro ⟨Hb, Hh, HO⟩
  icases HO with ⟨%W', HO⟩
  ihave H : iprop(boundary (SparseCore.T d : Thread nD τ) ∗ StableHlo.held (SparseCore.T d : Thread nD τ) ucRefs (Vreg m d)) $$ [Hb Hh]
  · isplitl [Hb]; · iexact Hb
    unfold Vreg; iexact Hh
  iapply (StableHlo.wp_hlo_within 𝒱 (SparseCore.T d) none Set.univ (op := op12) (sub_nullary _ _ _ rfl)) $$ H; iintro H; rw [wp_ret]; imodintro
  iapply (StableHlo.wp_hlo_within 𝒱 (SparseCore.T d) none Set.univ (op := op13) (sub_nullary _ _ _ rfl)) $$ H; iintro H; rw [wp_ret]; imodintro
  iapply (StableHlo.wp_hlo_within 𝒱 (SparseCore.T d) none Set.univ (op := op14) (sub_nullary _ _ _ rfl)) $$ H; iintro H; rw [wp_ret]; imodintro
  iapply (StableHlo.wp_hlo_within 𝒱 (SparseCore.T d) none Set.univ (op := op15) sub15) $$ H; iintro ⟨Hb, Hh⟩; rw [wp_ret]; imodintro
  imodintro
  isplitl [HO Hst]
  · isplitl [HO]
    · iexists W'
      isplitr; · ipureintro; exact wbelow_one d W'
      iexact HO
    · iexact Hst
  isplitl [Hh]; · iexact Hh
  isplitl [Hb] <;> iassumption

/-- The end state: the arguments and the result are as the chain of values says. -/
theorem held_agree (d : Dev nD) (V : Valuation τ sig (Elt F)) (s' : Phys nD τ sig (Elt F)) (r : Ref sig .tc) (h : r.isScoped = false) :
    iprop(StableHlo.held (SparseCore.T d : Thread nD τ) ucRefs V ∗ SI s') ⊢ (⌜s'.mem.mem (d, Proc.devRef .tc r) = V (Proc.devRef .tc r)⌝ : sProp 𝕄) := by
  rw [StableHlo.held_sub_split _ (Finset.singleton_subset_iff.mpr (mem_uc r h)) V]
  unfold StableHlo.held
  rw [bigSep_singleton]
  iintro ⟨⟨H, -⟩, HSI⟩
  ihave H := (SI_pointsTo_agree (st := s') (ℓ := (d, Proc.devRef .tc r)) (I := Finset.univ) (q := fullShare) (f := V (Proc.devRef .tc r))) $$ [HSI H]
  · isplitl [HSI] <;> iassumption
  icases H with %h1
  ipureintro; exact funext fun i => h1 i (Finset.mem_univ i)

def fq (d : Dev nD) (s' : Phys nD τ sig (Elt F)) : Prop :=
  ∀ r : Ref sig .tc, r.isScoped = false → s'.mem.mem (d, Proc.devRef .tc r) = Vend m d (Proc.devRef .tc r)

theorem hfin (d : Dev nD) (s' : Phys nD τ sig (Elt F)) : iprop(FIN m d ∗ SI s') ⊢ (⌜fq m d s'⌝ : sProp 𝕄) := by
  unfold FIN fq
  refine (Laws.forall_intro fun r => ?_).trans Laws.pure_forall.2
  by_cases h : r.isScoped = false
  · exact (held_agree d (Vend m d) s' r h).trans (Laws.pure_mono fun e _ => e)
  · exact Laws.pure_intro fun h' => absurd h' h

/-- An array no operation writes ends as it began. -/
theorem Vend_of_arg (d : Dev nD) (r : Ref sig .tc) (h : r = main_arg0 ∨ r = main_arg1 ∨ r = main_arg2 ∨ r = main_arg3) :
    Vend m d (Proc.devRef .tc r) = m (d, Proc.devRef .tc r) := by
  have hne : ∀ y : Ref sig .tc, (y ≠ main_arg0 ∧ y ≠ main_arg1 ∧ y ≠ main_arg2 ∧ y ≠ main_arg3) → r ≠ y := by
    rintro y ⟨h0, h1, h2, h3⟩ rfl
    rcases h with e | e | e | e
    exacts [h0 e, h1 e, h2 e, h3 e]
  unfold Vend
  rw [StableHlo.binaryIndexed_result_ne' (h := hne main_v10 (by decide)), StableHlo.nullary_result_ne' (h := hne main_c_3 (by decide)),
    StableHlo.nullary_result_ne' (h := hne main_c_2 (by decide)), StableHlo.nullary_result_ne' (h := hne main_c_1 (by decide))]
  unfold Vreg
  refine (Pipeline.afterRegion_keeps (pdats (Vmid m d) admAll 0 d) (Vmid m d) winFacts1.arr_inj (fun _ => rfl) r ?_).trans ?_
  · intro w hw
    have hw' : Pipeline.arrRef spec1 w ≠ main_v9 := fun e => hne main_v9 (by decide) (hw.symm.trans e)
    exact (show ∀ w : Fin 4, Pipeline.arrRef spec1 w ≠ main_v9 → (spec1 w).isOut = false by decide) w hw'
  · unfold Vmid
    rw [StableHlo.unary_result_ne' (h := hne main_v8 (by decide)), StableHlo.unary_result_ne' (h := hne main_v7 (by decide)),
      StableHlo.unary_result_ne' (h := hne main_v6 (by decide)), Vscan_of_ne m d r (hne main_v5 (by decide))]
    exact Vpre_of_ne m d r ⟨hne _ (by decide), hne _ (by decide), hne _ (by decide), hne _ (by decide), hne _ (by decide), hne _ (by decide), hne _ (by decide), hne _ (by decide)⟩

def QC : PUnit × MemSt nD τ sig (Elt F) → Prop := fun r =>
  (∀ c : Dev nD, r.2.mem ((SparseCore.T c : Thread nD τ).loc main_v10) = Vend m c (Proc.devRef .tc main_v10)
    ∧ ∀ a : Ref sig .tc, (a = main_arg0 ∨ a = main_arg1 ∨ a = main_arg2 ∨ a = main_arg3) → r.2.mem ((SparseCore.T c : Thread nD τ).loc a) = m ((SparseCore.T c : Thread nD τ).loc a))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (pvOf m)) (A := ∅) facts v₀
    (fun q hq => match q with | 0 => nomatch hq)
    (fun q _ => match q with | 0 => tileObl m (pvOf m))
    (fun q _ => match q with | 0 => SparseCore.Cfg.VecSplit.of_plain (vecSplit m (pvOf m)))
    m ρ main (fun d => ghost (F := F) d) (FIN m) (u₀ (F := F)) (sep_elim_left.trans (hu₀ m (pvOf m))) (hmain m ρ) (fq m) (hfin m) (QC m)
    (fun s' h hz => ⟨fun c => ⟨h c main_v10 rfl, fun a ha => (h c a (by rcases ha with e | e | e | e <;> subst e <;> rfl)).trans (Vend_of_arg m c a ha)⟩, hz⟩)

end Cert.Proof.KIdeal
-- ==== Proof.Same.lean ====
module

public import proofs.«01_k».proof.Proof.Main
public import proofs.«01_k».proof.Proof.Gen.Kernel
public import Idealize.ShloMosaic.PureOps.BitExact

@[expose] public section

noncomputable section

namespace Cert.Proof

open Idealize.ShloMosaic Idealize.SL.Sem

/-! # The two kernels' texts agree

`Kernel` and `KernelIdeal` are one text, so at the float bits their bodies and their threads are the same functions. -/

/-- A run under some bodies and threads is a run under equal ones. -/
theorem run_of_eq {nD : ℕ} {τ : Topo} {sig : RefSig} {Val : EltTy → Type} {Λ : Labels}
    {D D' : Defs nD τ sig Val Λ} {t t' : (c : Thread nD τ) → Prog (TpuEff nD τ sig Val Λ c.2) PUnit}
    (hD : D' = D) (ht : t' = t) {s Q} (h : θ_run D t s Q) : θ_run D' t' s Q := by
  subst hD ht
  exact h

section

set_option maxHeartbeats 4000000
set_option backward.isDefEq.respectTransparency false
set_option smartUnfolding false

theorem defs_eq : Cert.Kernel.defs (F := Bits) = Cert.KernelIdeal.defs (F := Bits) := rfl

theorem threads_eq : Cert.Kernel.threads (F := Bits) = Cert.KernelIdeal.threads (F := Bits) := rfl

end

end Cert.Proof
-- ==== Proof.Frames.lean ====
module

public import proofs.«01_k».proof.Defs
public import proofs.«01_k».proof.Proof.Same
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-! # Every program runs, its arguments unchanged and its counters at zero -/

/-- The predicate's slices and reductions are in range. -/
instance factsOrdered : Cert.Pre_ordered.Facts where
  slices_S8x512_S8x511_0_1 := by decide
  slices_S8x512_S8x511_0_0 := by decide
  reducesTo_S8x511_S_d0_1 := by decide
  h_S_ := by decide
  bcast_S_S8x512 := by decide
  reducesTo_S8x512_S_d0_1 := by decide

section

set_option maxHeartbeats 4000000
set_option backward.isDefEq.respectTransparency false

theorem frame_kernel : Cert.quiescent_Kernel := fun m ρ _ => run_of_eq defs_eq threads_eq
  ((θ_run Cert.KernelIdeal.defs _ _).mono
    (fun _ h => ⟨fun c => ⟨(h.1 c).2 _ (.inl rfl), (h.1 c).2 _ (.inr (.inl rfl)), (h.1 c).2 _ (.inr (.inr (.inl rfl))), (h.1 c).2 _ (.inr (.inr (.inr rfl)))⟩, h.2⟩)
    (KIdeal.run_main (F := Bits) m ρ))

end

theorem frame_ideal : Cert.quiescent_KernelIdeal := fun m ρ _ =>
  (θ_run Cert.KernelIdeal.defs _ _).mono
    (fun _ h => ⟨fun c => ⟨(h.1 c).2 _ (.inl rfl), (h.1 c).2 _ (.inr (.inl rfl)), (h.1 c).2 _ (.inr (.inr (.inl rfl))), (h.1 c).2 _ (.inr (.inr (.inr rfl)))⟩, h.2⟩)
    (KIdeal.run_main (F := Ideal) m ρ)

theorem frame_ideal_ordered : Cert.quiescent_KernelIdeal_pre_ordered := fun m ρ _ => frame_ideal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_ordered : Cert.quiescent_ReferenceIdeal_pre_ordered := fun m ρ _ => frame_reference m ρ trivial

end Cert.Proof
-- ==== Proof.HostValue.lean ====
/-
  What the host operations leave: the sixteen parameters, the arrays that the TensorCore's kernel reads, and the result
  array, assembled from the tiles' columns and the TensorCore's.
-/
module

public import proofs.«01_k».proof.Proof.Main
public import Idealize.ShloMosaic.Lib.Pointwise
public import Idealize.ShloMosaic.Lib.Claim
public import Idealize.ShloMosaic.Lib.Pipeline.ValueKit
public import Idealize.ShloMosaic.Lib.Routing.OpsPair

@[expose] public section

noncomputable section

namespace Cert.Proof.KIdeal

open Cert.KernelIdeal Cert.KernelIdeal.Gen
open Idealize.ShloMosaic
open scoped BigOperators

variable {F : FTy → Type} [FloatOps F]

/-! ## The parameters -/

/-- A scalar array's one index. -/
abbrev pt : S_.Idx := Shape.Idx.first h_S_

theorem lands1 : ∀ j : S_.Idx, scatter_S16_S1_S__n_0_0_0.resultIdx? j (broadcastInDim S1 ![] bcast_S_S1 (constantI S_ 32 1#32)) = some (ix1 1) := fun j => by
  rw [Routing.resultIdx?_eq_some]
  decide +revert

theorem lands2 : ∀ j : S_.Idx, scatter_S16_S1_S__n_0_0_0.resultIdx? j (broadcastInDim S1 ![] bcast_S_S1 (constantI S_ 32 2#32)) = some (ix1 2) := fun j => by
  rw [Routing.resultIdx?_eq_some]
  decide +revert

/-- One element set. -/
theorem scatter_one (x : Vec F S16 .f32) (idx : IVec S1 32) (u : Vec F S_ .f32) (k : S16.Idx)
    (h : ∀ j : S_.Idx, scatter_S16_S1_S__n_0_0_0.resultIdx? j idx = some k) (y : S16.Idx) :
    (Host.scatter scatter_S16_S1_S__n_0_0_0 (fun _ b => b) x idx u : Vec F S16 .f32) y = if y = k then u pt else x y := by
  show (List.foldl _ x (List.finRange 1)) y = _
  rw [List.finRange_succ, List.finRange_zero]
  simp only [List.map_nil, List.foldl_cons, List.foldl_nil, h]
  exact congrArg (fun a => if y = k then u a else x y) (funext fun a => a.elim0)

variable (m : (ℓ : Loc nD τ sig) → Buf (Elt F) ℓ) (d : Dev nD)

abbrev eLoc (d : Dev nD) : Loc nD τ sig := (SparseCore.T d : Thread nD τ).loc main_arg2
abbrev bLoc (d : Dev nD) : Loc nD τ sig := (SparseCore.T d : Thread nD τ).loc main_arg3

theorem pvOf_eq : pvOf m d = (Host.scatter scatter_S16_S1_S__n_0_0_0 (fun _ b => b)
    (Host.scatter scatter_S16_S1_S__n_0_0_0 (fun _ b => b) (broadcastInDim S16 ![] bcast_S_S16 (constant S_ .f32 0x00000000#32)) (broadcastInDim S1 ![] bcast_S_S1 (constantI S_ 32 1#32)) (m (eLoc d)))
    (broadcastInDim S1 ![] bcast_S_S1 (constantI S_ 32 2#32)) (m (bLoc d)) : Vec F S16 .f32) := by
  unfold pvOf Vpre
  after_results_simp
  rfl

theorem pvOf_one : pvOf m d (ix1 1) = (m (eLoc d) : Vec F S_ .f32) pt := by
  rw [pvOf_eq, scatter_one _ _ _ _ lands2, if_neg (by decide), scatter_one _ _ _ _ lands1, if_pos rfl]

theorem pvOf_two : pvOf m d (ix1 2) = (m (bLoc d) : Vec F S_ .f32) pt := by
  rw [pvOf_eq, scatter_one _ _ _ _ lands2, if_pos rfl]

/-! ## The TensorCore kernel's operands -/

theorem Vmid_v6 : Vmid m d (Proc.devRef .tc main_v6) = (broadcastInDim S8x512x1 ![0, 1] bcast_S8x512_S8x512x1_0_1 (m (tLoc d)) : Vec F S8x512x1 .f32) := by
  unfold Vmid
  after_results_simp
  rw [Vscan_of_ne m d _ (by decide), Vpre_of_ne m d _ (by decide)]

theorem Vmid_v8 : Vmid m d (Proc.devRef .tc main_v8) = (broadcastInDim S1x2 ![1] bcast_S2_S1x2_1 (extractStridedSlice S2 ![1] (pvOf m d) slices_S16_S2_1) : Vec F S1x2 .f32) := by
  unfold Vmid
  after_results_simp
  rw [Vscan_of_ne m d _ (by decide)]
  rfl

theorem Vmid_arg0 : Vmid m d (Proc.devRef .tc main_arg0) = m (hLoc d) := by
  unfold Vmid
  after_results_simp
  rw [Vscan_of_ne m d _ (by decide), Vpre_of_ne m d _ (by decide)]

theorem Vmid_v5 : Vmid m d (Proc.devRef .tc main_v5) = scanOut m (pvOf m) d := by
  unfold Vmid
  after_results_simp
  unfold Vscan
  rw [Function.update_self]

/-! ## The TensorCore kernel's result -/

/-- The array that the TensorCore's kernel leaves: batch by batch, its block of the batch's times, the parameters and the batch's last 256 columns. -/
def tcOut (x1 : Vec F S8x512x1 .f32) (x2 : Vec F S1x2 .f32) (h : Vec F S8x512x768 .f32) : Vec F S8x512x256 .f32 := fun y =>
  tcBlock (fun u => x1 (ix3 (y 0) (u 1) 0)) x2 (fun u => h (ix3 (y 0) (u 1) ⟨512 + (u 2).val, Nat.add_lt_add_left (u 2).isLt 512⟩)) (ix3 0 (y 1) (y 2))

section
variable (Ve : Valuation τ sig (Elt F))

/-- The batch of a grid point. -/
abbrev bOf (t : Fin cfg1.N) : Fin 8 := ⟨t.val, t.isLt⟩

theorem idx0 : ∀ (t : Fin cfg1.N) (a : Fin 3), win1_0.index t a = (![t.val, 0, 0] : Fin 3 → ℕ) a := by decide +kernel
theorem idx1 : ∀ (t : Fin cfg1.N) (a : Fin 2), win1_1.index t a = 0 := by decide +kernel
theorem idx2 : ∀ (t : Fin cfg1.N) (a : Fin 3), win1_2.index t a = (![t.val, 0, 2] : Fin 3 → ℕ) a := by decide +kernel
theorem idx3 : ∀ (t : Fin cfg1.N) (a : Fin 3), win1_3.index t a = (![t.val, 0, 0] : Fin 3 → ℕ) a := by decide +kernel

theorem stg0_eq (t : Fin cfg1.N) : stg0 Ve t = fun u => (Ve (Proc.devRef .tc main_v6) : Vec F S8x512x1 .f32) (ix3 (bOf t) (u 1) 0) := by
  funext u
  refine congrArg (Ve (Proc.devRef .tc main_v6) : Vec F S8x512x1 .f32) (show ((cfg1.win 0).blk t).view.emb u = (ix3 (bOf t) (u 1) 0 : S8x512x1.Idx) from ?_)
  blk_ext [idx0 t]

theorem stg1_eq (t : Fin cfg1.N) : stg1 Ve t = (Ve (Proc.devRef .tc main_v8) : Vec F S1x2 .f32) := by
  funext u
  refine congrArg (Ve (Proc.devRef .tc main_v8) : Vec F S1x2 .f32) (show ((cfg1.win 1).blk t).view.emb u = u from ?_)
  blk_ext [idx1 t]

theorem stg2_eq (t : Fin cfg1.N) : stg2 Ve t = fun u => (Ve (Proc.devRef .tc main_arg0) : Vec F S8x512x768 .f32)
    (ix3 (bOf t) (u 1) ⟨512 + (u 2).val, Nat.add_lt_add_left (u 2).isLt 512⟩) := by
  funext u
  refine congrArg (Ve (Proc.devRef .tc main_arg0) : Vec F S8x512x768 .f32)
    (show ((cfg1.win 2).blk t).view.emb u = (ix3 (bOf t) (u 1) ⟨512 + (u 2).val, Nat.add_lt_add_left (u 2).isLt 512⟩ : S8x512x768.Idx) from ?_)
  blk_ext [idx2 t]

theorem arrAt_out : ((dat Ve d).arrAt 3 cfg1.N : Vec F S8x512x256 .f32)
    = tcOut (Ve (Proc.devRef .tc main_v6)) (Ve (Proc.devRef .tc main_v8)) (Ve (Proc.devRef .tc main_arg0)) := by
  refine (dat Ve d).arrAt_eq_of_covers 3 _ (by decide +kernel) fun t hf y => ?_
  show tcBlock (stg0 Ve t) (stg1 Ve t) (stg2 Ve t) y = _
  have e : ((cfg1.win 3).blk t).view.emb y = (ix3 (bOf t) (y 1) (y 2) : S8x512x256.Idx) := by
    blk_ext [idx3 t]
  rw [stg0_eq, stg1_eq, stg2_eq, e]
  refine congrArg (tcBlock _ _ _) (funext fun a => ?_)
  match a with
  | ⟨0, _⟩ => exact Fin.ext (by have h : (y 0).val < 1 := (y 0).isLt; show (y 0).val = 0; omega)
  | ⟨1, _⟩ => rfl
  | ⟨2, _⟩ => rfl

end

/-! ## The result -/

theorem Vend_v10 : Vend m d (Proc.devRef .tc main_v10) = (Host.dynamicUpdateSlice (scanOut m (pvOf m) d : Vec F S8x512x768 .f32)
    ((dat (Vmid m d) d).arrAt 3 cfg1.N : Vec F S8x512x256 .f32) ![0, 0, 512] updateFits_S8x512x768_S8x512x256 : Vec F S8x512x768 .f32) := by
  unfold Vend
  after_results_simp
  refine congrArg₂ (fun a b => Host.dynamicUpdateSlice a b _ _) ?_ ?_ |>.trans (congrArg (fun s => Host.dynamicUpdateSlice _ _ s _) (funext fun k => ?_))
  · unfold Vreg
    refine (Pipeline.afterRegion_of_not_arr (pdats (Vmid m d) admAll 0 d) (Vmid m d) (b := main_v5) ?_).trans (Vmid_v5 m d)
    exact (show ∀ w : Fin 4, main_v5 ≠ Pipeline.arrRef spec1 w by decide)
  · unfold Vreg
    exact Pipeline.afterRegion_arr (pdats (Vmid m d) admAll 0 d) (Vmid m d) winFacts1.arr_inj 3
  · match k with
    | ⟨0, _⟩ => rfl
    | ⟨1, _⟩ => rfl
    | ⟨2, _⟩ => rfl

end Cert.Proof.KIdeal
-- ==== Proof.Sums.lean ====
/-
  Sums over extended reals: the decayed running sum in closed form, the sum of weighted terms with one factor taken
  out, and the prefix sum by doubling windows. Nothing here mentions a program.
-/
module

public import Idealize.ShloMosaic.PureOps.Ideal

@[expose] public section

noncomputable section

namespace Cert.Proof.Sums

open Idealize.ShloMosaic
open scoped BigOperators

/-- The positive part. -/
def relu (x : EReal) : EReal := max x 0

theorem relu_nonneg (x : EReal) : 0 ≤ relu x := le_max_right _ _

/-- The growth between two times at rate `β`. -/
def growth (β s t : ℝ) : EReal := ((Real.exp (β * (s - t)) : ℝ) : EReal)

theorem growth_nonneg (β s t : ℝ) : 0 ≤ growth β s t := EReal.coe_nonneg.mpr (Real.exp_pos _).le

theorem growth_self (β s : ℝ) : growth β s s = 1 := by
  unfold growth; rw [sub_self, mul_zero, Real.exp_zero]; rfl

theorem growth_mul (β s t u : ℝ) : growth β s t * growth β t u = growth β s u := by
  unfold growth
  rw [← EReal.coe_mul, ← Real.exp_add]
  congr 2; ring

theorem growth_add (β s t : ℝ) (x y : EReal) : growth β s t * (x + y) = growth β s t * x + growth β s t * y :=
  EReal.left_distrib_of_nonneg_of_ne_top (growth_nonneg β s t) (EReal.coe_ne_top _) x y

/-- The exponential of a product of a real rate and a real difference of times. -/
theorem exp_real (β s t : ℝ) : Ideal.exp ((β : EReal) * ((s : EReal) - (t : EReal))) = growth β s t := by
  rw [← EReal.coe_sub, ← EReal.coe_mul]; rfl

/-- What the model computes at row `i` of a column: the rows so far, plus the weighted positive parts of the rows so far. -/
def hawkes (e : EReal) (β : ℝ) (t : ℕ → ℝ) (h : ℕ → EReal) (i : ℕ) : EReal :=
  (∑ j ∈ Finset.range (i + 1), h j) + ∑ j ∈ Finset.range (i + 1), e * growth β (t i) (t j) * relu (h j)

/-- A growth goes into a sum. -/
theorem growth_sum (β s t : ℝ) (f : ℕ → EReal) (n : ℕ) :
    growth β s t * ∑ j ∈ Finset.range n, f j = ∑ j ∈ Finset.range n, growth β s t * f j := by
  induction n with
  | zero => simp
  | succ n ih => rw [Finset.sum_range_succ, growth_add, ih, Finset.sum_range_succ]

/-- The decayed running sum in closed form. -/
theorem decayed (e : EReal) (β : ℝ) (t : ℕ → ℝ) (h B : ℕ → EReal) (h0 : B 0 = 0) (n : ℕ)
    (hs : ∀ g < n, B (g + 1) = growth β (t g) (t (g - 1)) * B g + e * relu (h g)) (g : ℕ) (hg : g < n) :
    B (g + 1) = ∑ j ∈ Finset.range (g + 1), e * growth β (t g) (t j) * relu (h j) := by
  induction g with
  | zero => rw [hs 0 hg, h0, mul_zero, zero_add]; simp [growth_self]
  | succ g ih =>
    rw [hs (g + 1) hg, ih (by omega), growth_sum, Finset.sum_range_succ _ (g + 1), growth_self, mul_one]
    refine congrArg (· + _) (Finset.sum_congr rfl fun j _ => ?_)
    rw [Nat.add_sub_cancel, ← growth_mul β (t (g + 1)) (t g) (t j)]
    simp only [mul_assoc, mul_left_comm]

/-- A factor taken out of a sum of products with nonnegative weights. -/
theorem factored (e : EReal) (β : ℝ) (t : ℕ → ℝ) (o : ℝ) (h : ℕ → EReal) (i n : ℕ) :
    e * growth β (t i) o * ∑ j ∈ Finset.range n, growth β o (t j) * relu (h j)
      = ∑ j ∈ Finset.range n, e * growth β (t i) (t j) * relu (h j) := by
  induction n with
  | zero => simp
  | succ n ih =>
    rw [Finset.sum_range_succ, EReal.left_distrib_of_nonneg
      (Finset.sum_nonneg fun j _ => mul_nonneg (growth_nonneg _ _ _) (relu_nonneg _))
      (mul_nonneg (growth_nonneg _ _ _) (relu_nonneg _)), ih, Finset.sum_range_succ]
    refine congrArg (_ + ·) ?_
    rw [← growth_mul β (t i) o (t n)]
    simp only [mul_assoc]

/-- The last `w` terms up to `i`, fewer when there are fewer. -/
def window (z : ℕ → EReal) (w i : ℕ) : EReal := ∑ j ∈ Finset.range (min w (i + 1)), z (i - j)

theorem window_one (z : ℕ → EReal) (i : ℕ) : window z 1 i = z i := by
  unfold window; rw [min_eq_left (by omega)]; simp

/-- Two windows in a row are a window of twice the width. -/
theorem window_double (z : ℕ → EReal) (w i : ℕ) : window z w i + (if w ≤ i then window z w (i - w) else 0) = window z (w + w) i := by
  unfold window
  split
  · rename_i hw
    have e : min (w + w) (i + 1) = w + min w (i - w + 1) := by omega
    rw [e, Finset.sum_range_add, min_eq_left (by omega : w ≤ i + 1)]
    refine congrArg (_ + ·) (Finset.sum_congr rfl fun j _ => congrArg z (by omega))
  · rename_i hw
    rw [min_eq_right (by omega : i + 1 ≤ w), min_eq_right (by omega : i + 1 ≤ w + w), add_zero]

/-- A window as wide as the column is the prefix sum. -/
theorem window_full (z : ℕ → EReal) (w i : ℕ) (h : i < w) : window z w i = ∑ j ∈ Finset.range (i + 1), z j := by
  unfold window
  rw [min_eq_right (by omega : i + 1 ≤ w), ← Finset.sum_range_reflect z (i + 1)]
  exact Finset.sum_congr rfl fun j _ => congrArg z (by omega)

end Cert.Proof.Sums
-- ==== Proof.ScValue.lean ====
/-
  What a tile leaves in a column, over extended reals: the two running sums add up to the model's value.
-/
module

public import proofs.«01_k».proof.Proof.Pieces
public import Idealize.ShloMosaic.Lib.Pointwise
public import proofs.«01_k».proof.Proof.Sums

@[expose] public section

noncomputable section

namespace Cert.Proof.KIdeal

open Cert.KernelIdeal Cert.KernelIdeal.Gen
open Idealize.ShloMosaic
open Cert.Proof.Sums
open scoped BigOperators

section
variable {e : V16 Ideal} {rv : Vec Ideal S512 .f32} {H : ℕ → Row Ideal} {c : Fin 8} {x : S16.Idx}

/-- The first running sum is the sum of the rows. -/
theorem accs_fst (g : ℕ) : (accs e rv H g).1 c x = ∑ j ∈ Finset.range g, H j c x := by
  induction g with
  | zero => rw [Finset.sum_range_zero]; show zero16 x = 0; pointwise [zero16]
  | succ g ih => rw [Finset.sum_range_succ, ← ih]; rfl

/-- The second running sum is the sum of the weighted positive parts. -/
theorem accs_snd {β : ℝ} {τ : ℕ → ℝ} (hr : ∀ g < 512, rv (ix1 ⟨g % 512, Nat.mod_lt _ (by decide)⟩) = growth β (τ g) (τ (g - 1))) (g : ℕ) (hg : g < 512) :
    (accs e rv H (g + 1)).2 c x = ∑ j ∈ Finset.range (g + 1), e x * growth β (τ g) (τ j) * relu (H j c x) := by
  refine decayed (e x) β τ (fun j => H j c x) (fun g => (accs e rv H g).2 c x) ?_ 512 (fun g hg => ?_) g hg
  · show zero16 x = 0; pointwise [zero16]
  · rw [← hr g hg]
    show nextB e (decayAt rv g) (H g c) ((accs e rv H g).2 c) x = _
    pointwise [nextB, decayAt]
    rfl

/-- What the tile stores in row `g`. -/
theorem outs_apply {β : ℝ} {τ : ℕ → ℝ} (hr : ∀ g < 512, rv (ix1 ⟨g % 512, Nat.mod_lt _ (by decide)⟩) = growth β (τ g) (τ (g - 1))) (g : ℕ) (hg : g < 512) :
    outs e rv H g c x = hawkes (e x) β τ (fun j => H j c x) g := by
  show (accs e rv H (g + 1)).1 c x + (accs e rv H (g + 1)).2 c x = _
  rw [accs_fst, accs_snd hr g hg]
  rfl

end

/-- The row decays along real times at a real rate. -/
theorem decay_apply {b : Ideal .f32} {t : Vec Ideal S512 .f32} {β : ℝ} {τ : ℕ → ℝ} (hb : b = (β : EReal)) (ht : ∀ i : Fin 512, t (ix1 i) = ((τ i.val : ℝ) : EReal))
    (g : ℕ) (hg : g < 512) : decay b t (ix1 ⟨g % 512, Nat.mod_lt _ (by decide)⟩) = growth β (τ g) (τ (g - 1)) := by
  rw [show (⟨g % 512, Nat.mod_lt _ (by decide)⟩ : Fin 512) = ⟨g, hg⟩ from Fin.ext (Nat.mod_eq_of_lt hg)]
  show Ideal.exp (b * (t (ix1 ⟨g, hg⟩) - t (ix1 ⟨g - 1, _⟩))) = _
  rw [hb, ht, ht, exp_real]

/-- The array after the tiles, in their columns. -/
theorem scan_apply (h : Vec Ideal S8x512x768 .f32) (p : Vec Ideal S16 .f32) (t : Vec Ideal S8x512 .f32) (o : Vec Ideal S8x512x768 .f32) {β : ℝ} {τ : ℕ → ℝ}
    (b : Fin 8) (i : Fin 512) (d : Fin 768) (hd : d.val < 512) (hβ : p (ix1 2) = (β : EReal)) (hτ : ∀ j : Fin 512, t (ix2 b j) = ((τ j.val : ℝ) : EReal)) :
    scan h p t o (ix3 b i d) = hawkes (p (ix1 1)) β τ (fun j => entry h b.val j d.val) i.val := by
  unfold scan
  rw [if_pos (show ((ix3 b i d : S8x512x768.Idx) 2).val < 512 from hd)]
  unfold atCol
  refine (outs_apply (rv := decay (p (ix1 2)) (tOf t b)) (H := hOf h b.val (d.val / 128 * 128)) (c := ⟨d.val % 128 / 16, by omega⟩)
    (x := ix1 ⟨d.val % 128 % 16, by omega⟩) (β := β) (τ := τ) (decay_apply hβ hτ) _ i.isLt).trans ?_
  refine congrArg (fun f => hawkes (p (ix1 1)) β τ f i.val) (funext fun j => congrArg (entry h b.val j) ?_)
  show d.val / 128 * 128 + 16 * (d.val % 128 / 16) + d.val % 128 % 16 = d.val
  omega

end Cert.Proof.KIdeal
-- ==== Proof.TcValue.lean ====
/-
  The TensorCore kernel's block, over extended reals: the doubling shifts are prefix sums, and the two factors of the
  weight meet in the model's weight.
-/
module

public import proofs.«01_k».proof.Proof.TcBody
public import Idealize.ShloMosaic.Lib.Pointwise
public import proofs.«01_k».proof.Proof.Sums

@[expose] public section

noncomputable section

namespace Cert.Proof.KIdeal

open Cert.KernelIdeal Cert.KernelIdeal.Gen
open Idealize.ShloMosaic
open Cert.Proof.Sums
open scoped BigOperators

/-! ## One shift of the prefix sum -/

/-- Rows moved down by `w`, zeros above. -/
theorem shifted_apply {w n : ℕ} (hs : S512x512.Slices ![0, 0] ⟨2, ![n, 512]⟩) (hc : Shape.Concatenates [⟨2, ![w, 512]⟩, ⟨2, ![n, 512]⟩] S512x512 0)
    (v : FVec Ideal S512x512 .f32) (i c : Fin 512) :
    (concatenate S512x512 0 [⟨⟨2, ![w, 512]⟩, broadcast ⟨2, ![w, 512]⟩ (Scalar.ofBits .f32 0x00000000#32 : Ideal .f32)⟩,
        ⟨⟨2, ![n, 512]⟩, extractStridedSlice ⟨2, ![n, 512]⟩ ![0, 0] v hs⟩] hc : FVec Ideal S512x512 .f32) (ix2 i c)
      = if w ≤ i.val then v (ix2 ⟨i.val - w, by omega⟩ c) else 0 := by
  have hn : w + n = 512 := by simpa using hc.2.2
  split
  · rename_i hw
    refine (concatenate_pair_apply_right 0 _ _ hc (ix2 i c) rfl rfl (ix2 ⟨i.val - w, by omega⟩ c) (fun b hb => ?_) ?_).trans ?_
    · match b with
      | ⟨0, _⟩ => exact absurd rfl hb
      | ⟨1, _⟩ => rfl
    · show i.val - w + w = i.val; omega
    · refine extractStridedSlice_apply _ v hs _ _ fun a => ?_
      match a with
      | ⟨0, _⟩ => show i.val - w = 0 + (i.val - w); omega
      | ⟨1, _⟩ => show c.val = 0 + c.val; omega
  · rename_i hw
    refine (concatenate_pair_apply_left 0 _ _ hc (ix2 i c) rfl (ix2 ⟨i.val, by omega⟩ c) fun b => ?_).trans ?_
    · match b with
      | ⟨0, _⟩ => rfl
      | ⟨1, _⟩ => rfl
    · pointwise

/-- The array of the columns' window sums of width `w`. -/
def Windows (z : Fin 512 → ℕ → EReal) (w : ℕ) (v : FVec Ideal S512x512 .f32) : Prop := ∀ i c : Fin 512, v (ix2 i c) = window (z c) w i.val

/-- Adding the rows moved down by `w` doubles the windows. -/
theorem Windows.step {z : Fin 512 → ℕ → EReal} {w n : ℕ} {v : FVec Ideal S512x512 .f32} (h : Windows z w v)
    (hs : S512x512.Slices ![0, 0] ⟨2, ![n, 512]⟩) (hc : Shape.Concatenates [⟨2, ![w, 512]⟩, ⟨2, ![n, 512]⟩] S512x512 0) :
    Windows z (w + w) (addf v (concatenate S512x512 0 [⟨⟨2, ![w, 512]⟩, broadcast ⟨2, ![w, 512]⟩ (Scalar.ofBits .f32 0x00000000#32 : Ideal .f32)⟩,
        ⟨⟨2, ![n, 512]⟩, extractStridedSlice ⟨2, ![n, 512]⟩ ![0, 0] v hs⟩] hc)) := fun i c => by
  rw [addf_apply, shifted_apply hs hc, h i c, h ⟨i.val - w, _⟩ c]
  exact window_double (z c) w i.val

/-! ## The block -/

section
variable (x1 : Vec Ideal S1x512x1 .f32) (x2 : Vec Ideal S1x2 .f32) (x3 : Vec Ideal S1x512x256 .f32)

/-- Column `c` of the input's block. -/
def colOf (c : Fin 256) (j : ℕ) : EReal := x3 (ix3 0 ⟨j % 512, Nat.mod_lt _ (by decide)⟩ c)

/-- Column `c` of the array that is summed: the input, then its weighted positive parts. -/
def zOf (β : ℝ) (τ : ℕ → ℝ) (c : Fin 512) (j : ℕ) : EReal :=
  if h : c.val < 256 then colOf x3 ⟨c.val, h⟩ j else growth β (τ 0) (τ j) * relu (colOf x3 ⟨c.val - 256, by omega⟩ j)

theorem neg_rate (β s t : ℝ) : Ideal.exp ((0 - (β : EReal)) * ((s : EReal) - (t : EReal))) = growth β t s := by
  rw [zero_sub, ← EReal.coe_neg, exp_real]
  unfold growth; congr 2; ring

variable {x1 x2 x3} {β : ℝ} {τ : ℕ → ℝ} (hβ : x2 (ix2 0 1) = (β : EReal)) (hτ : ∀ i : Fin 512, x1 (ix3 0 i 0) = ((τ i.val : ℝ) : EReal))
include hβ hτ

theorem sums16 : Windows (zOf x3 β τ) 16 (k1_pay4 (x2 (ix2 0 1)) x1 x3) := by
  unfold k1_pay4
  refine Windows.step (w := 8) (Windows.step (w := 4) (Windows.step (w := 2) (Windows.step (w := 1) ?_ _ _) _ _) _ _) _ _
  intro i c
  rw [window_one]
  pointwise [k1_pay2, zOf, colOf]
  have hi : (⟨i.val % 512, Nat.mod_lt _ (by decide)⟩ : Fin 512) = i := Fin.ext (Nat.mod_eq_of_lt i.isLt)
  rw [hi, hβ, hτ i, hτ 0, neg_rate]
  rfl

omit hβ hτ in
/-- The kernel's last steps: the first 256 columns, plus the row's factor times the last 256. -/
theorem readout (V : FVec Ideal S512x512 .f32) (g : FVec Ideal S512x1 .f32) (i : Fin 512) (c : Fin 256) :
    (shapeCast S1x512x256 (addf (extractStridedSlice S512x256 ![0, 0] V slices_S512x512_o0_0_S512x256)
        (mulf (broadcastTo S512x256 g broadcasts_S512x1_S512x256) (extractStridedSlice S512x256 ![0, 256] V slices_S512x512_o0_256_S512x256)))
      shapeCasts_S512x256_S1x512x256 : FVec Ideal S1x512x256 .f32) (ix3 0 i c)
      = V (ix2 i ⟨c.val, by omega⟩) + g (ix2 i 0) * V (ix2 i ⟨256 + c.val, by omega⟩) := by
  pointwise

theorem factor_apply (i : Fin 512) : k1_pay3 (x2 (ix2 0 0)) (x2 (ix2 0 1)) x1 (ix2 i 0) = x2 (ix2 0 0) * growth β (τ i.val) (τ 0) := by
  pointwise [k1_pay3, k1_pay2]
  rw [hβ, hτ i, hτ 0, exp_real]
  rfl

theorem tcBlock_apply (i : Fin 512) (c : Fin 256) : tcBlock x1 x2 x3 (ix3 0 i c) = hawkes (x2 (ix2 0 0)) β τ (colOf x3 c) i.val := by
  have h16 := sums16 (x3 := x3) hβ hτ
  have h32 : Windows (zOf x3 β τ) 32 (addf (k1_pay4 (x2 (ix2 0 1)) x1 x3) (k1_pay5 (x2 (ix2 0 1)) x1 x3)) :=
    h16.step slices_S512x512_o0_0_S496x512 concatenates_S16x512_S496x512_S512x512_d0
  have h512 := (((h32.step slices_S512x512_o0_0_S480x512 concatenates_S32x512_S480x512_S512x512_d0).step
    slices_S512x512_o0_0_S448x512 concatenates_S64x512_S448x512_S512x512_d0).step
    slices_S512x512_o0_0_S384x512 concatenates_S128x512_S384x512_S512x512_d0).step
    slices_S512x512_o0_0_S256x512 concatenates_S256x512_S256x512_S512x512_d0
  refine (readout _ _ i c).trans ?_
  refine (congrArg₂ (fun a b => a + _ * b) (h512 i ⟨c.val, by omega⟩) (h512 i ⟨256 + c.val, by omega⟩)).trans ?_
  rw [window_full _ _ _ (show i.val < 256 + 256 from i.isLt), window_full _ _ _ (show i.val < 256 + 256 from i.isLt), factor_apply hβ hτ]
  unfold hawkes
  refine congrArg₂ (· + ·) (Finset.sum_congr rfl fun j _ => ?_) ?_
  · unfold zOf; rw [dif_pos c.isLt]
  · rw [← factored]
    refine congrArg (_ * ·) (Finset.sum_congr rfl fun j _ => ?_)
    unfold zOf
    rw [dif_neg (by show ¬ 256 + c.val < 256; omega)]
    refine congrArg (fun c => _ * relu (colOf x3 c j)) (Fin.ext ?_)
    show 256 + c.val - 256 = c.val; omega

end

end Cert.Proof.KIdeal
-- ==== Proof.KernelValue.lean ====
/-
  The kernel's result array, over extended reals: at every index the model's value.
-/
module

public import proofs.«01_k».proof.Proof.HostValue
public import proofs.«01_k».proof.Proof.ScValue
public import proofs.«01_k».proof.Proof.TcValue

@[expose] public section

noncomputable section

namespace Cert.Proof.KIdeal

open Cert.KernelIdeal Cert.KernelIdeal.Gen
open Idealize.ShloMosaic
open Cert.Proof.Sums
open scoped BigOperators

/-- The model's value at batch `b`, row `i`, column `c`. -/
def model (h : Vec Ideal S8x512x768 .f32) (e : EReal) (β : ℝ) (τ : Fin 8 → ℕ → ℝ) (b : Fin 8) (i : Fin 512) (c : Fin 768) : EReal :=
  hawkes e β (τ b) (fun j => entry h b.val j c.val) i.val

variable (m : (ℓ : Loc nD τ sig) → Buf (Elt Ideal) ℓ) (d : Dev nD) {β : ℝ} {τ : Fin 8 → ℕ → ℝ}

/-- What the TensorCore's kernel leaves. -/
theorem tcOut_apply (h : Vec Ideal S8x512x768 .f32) (p : Vec Ideal S16 .f32) (t : Vec Ideal S8x512 .f32) (hβ : p (ix1 2) = (β : EReal))
    (hτ : ∀ b j, t (ix2 b j) = ((τ b j.val : ℝ) : EReal)) (b : Fin 8) (i : Fin 512) (c : Fin 256) :
    tcOut (broadcastInDim S8x512x1 ![0, 1] bcast_S8x512_S8x512x1_0_1 t) (broadcastInDim S1x2 ![1] bcast_S2_S1x2_1 (extractStridedSlice S2 ![1] p slices_S16_S2_1)) h (ix3 b i c)
      = model h (p (ix1 1)) β τ b i ⟨512 + c.val, by omega⟩ := by
  unfold tcOut
  refine (tcBlock_apply (β := β) (τ := τ b) ?_ (fun j => ?_) i c).trans ?_
  · pointwise
    exact hβ
  · pointwise
    exact hτ b j
  · unfold model
    refine (congrArg (fun x => hawkes x β (τ b) _ i.val) ?_).trans (congrArg (fun f => hawkes (p (ix1 1)) β (τ b) f i.val) (funext fun j => ?_))
    · pointwise
    · refine congrArg h (funext fun a => Fin.ext ?_)
      match a with
      | ⟨0, _⟩ => show b.val = b.val % 8; omega
      | ⟨1, _⟩ => rfl
      | ⟨2, _⟩ => show 512 + c.val = (512 + c.val) % 768; omega

/-- The first array with the second written over its last 256 columns. -/
theorem joined (x : Vec Ideal S8x512x768 .f32) (u : Vec Ideal S8x512x256 .f32) (b : Fin 8) (i : Fin 512) (c : Fin 768) :
    Host.dynamicUpdateSlice x u ![0, 0, 512] updateFits_S8x512x768_S8x512x256 (ix3 b i c)
      = if h : 512 ≤ c.val then u (ix3 b i ⟨c.val - 512, by omega⟩) else x (ix3 b i c) := by
  rw [Host.dynamicUpdateSlice_eq_updateSlice x u _ _ ![0, 0, 512] (by decide) (by decide)]
  pointwise

/-- The result array. -/
theorem kernel_value (hβ : (m (bLoc d) : Vec Ideal S_ .f32) pt = (β : EReal)) (hτ : ∀ b j, (m (tLoc d) : Vec Ideal S8x512 .f32) (ix2 b j) = ((τ b j.val : ℝ) : EReal))
    (b : Fin 8) (i : Fin 512) (c : Fin 768) :
    (Vend m d (Proc.devRef .tc main_v10) : Vec Ideal S8x512x768 .f32) (ix3 b i c) = model (m (hLoc d)) ((m (eLoc d) : Vec Ideal S_ .f32) pt) β τ b i c := by
  rw [Vend_v10, arrAt_out, Vmid_v6, Vmid_v8, Vmid_arg0]
  refine (joined _ _ b i c).trans ?_
  split
  · rename_i h
    rw [tcOut_apply _ _ _ ((pvOf_two m d).trans hβ) hτ, pvOf_one]
    refine congrArg (model _ _ β τ b i) (Fin.ext ?_)
    show 512 + (c.val - 512) = c.val; omega
  · rename_i h
    refine (scan_apply (m (hLoc d)) (pvOf m d) (m (tLoc d)) _ b i c (by omega) ((pvOf_two m d).trans hβ) (hτ b)).trans ?_
    rw [pvOf_one]
    rfl

end Cert.Proof.KIdeal
-- ==== Proof.RefValue.lean ====
/-
  The reference's result, over extended reals: at strictly increasing times the mask keeps the rows so far, and the
  masked sums are the model's value.
-/
module

public import proofs.«01_k».proof.Proof.Gen.ReferenceIdeal.Run
public import Idealize.ShloMosaic.Lib.Pointwise
public import proofs.«01_k».proof.Proof.Sums

@[expose] public section

noncomputable section

namespace Cert.Proof.RIdeal

open Cert.ReferenceIdeal Cert.ReferenceIdeal.Gen
open Idealize.ShloMosaic
open Cert.Proof.Sums
open scoped BigOperators

/-- Every row's time minus every row's time. -/
def lags (t : Vec Ideal S8x512 .f32) : FVec Ideal S8x512x512 .f32 :=
  subf (broadcastInDim S8x512x512 ![0, 1, 2] bcast_S8x512x1_S8x512x512_0_1_2 (broadcastInDim S8x512x1 ![0, 1] bcast_S8x512_S8x512x1_0_1 t)) (broadcastInDim S8x512x512 ![0, 1, 2] bcast_S8x1x512_S8x512x512_0_1_2 (broadcastInDim S8x1x512 ![0, 2] bcast_S8x512_S8x1x512_0_2 t))

/-- One where the row's time is not before the other's, zero elsewhere. -/
def mask (t : Vec Ideal S8x512 .f32) : FVec Ideal S8x512x512 .f32 :=
  uitofp .f32 (cmpf .oge (lags t) (broadcastInDim S8x512x512 ![] bcast_S_S8x512x512 (constant S_ .f32 0x00000000#32)))

/-- What the reference computes. -/
def out (h : Vec Ideal S8x512x768 .f32) (t : Vec Ideal S8x512 .f32) (e b : Vec Ideal S_ .f32) : Vec Ideal S8x512x768 .f32 :=
  addf (Host.dotGeneral dot_S8x512x512_S8x512x768_S8x512x768_2_1_1_2_0_0 none (mask t) (show FVec Ideal S8x512x768 .f32 from h)) (Host.dotGeneral dot_S8x512x512_S8x512x768_S8x512x768_2_1_1_2_0_0 none (mulf (mulf (broadcastInDim S8x512x512 ![] bcast_S_S8x512x512 e) (Host.exp (mulf (broadcastInDim S8x512x512 ![] bcast_S_S8x512x512 b) (lags t)))) (mask t)) (maximumf h (broadcastInDim S8x512x768 ![] bcast_S_S8x512x768 (constant S_ .f32 0x00000000#32))))

/-- A scalar array's one index. -/
abbrev pt : S_.Idx := fun a => a.elim0

variable {t : Vec Ideal S8x512 .f32} {τ : Fin 8 → ℕ → ℝ} (hτ : ∀ b j, t (ix2 b j) = ((τ b j.val : ℝ) : EReal))
  (hlt : ∀ b (i j : Fin 512), i < j → τ b i.val < τ b j.val)
include hτ

theorem lags_apply (b : Fin 8) (i j : Fin 512) : lags t (ix3 b i j) = ((τ b i.val : ℝ) : EReal) - ((τ b j.val : ℝ) : EReal) := by
  pointwise [lags]
  rw [hτ, hτ]

include hlt

theorem mask_apply (b : Fin 8) (i j : Fin 512) : mask t (ix3 b i j) = if j.val ≤ i.val then 1 else 0 := by
  unfold mask
  pointwise
  rw [lags_apply hτ, ← EReal.coe_sub]
  have hb : ((0 : EReal) ≤ ((τ b i.val - τ b j.val : ℝ) : EReal)) ↔ j.val ≤ i.val := by
    rw [← EReal.coe_zero, EReal.coe_le_coe_iff, sub_nonneg]
    refine ⟨fun h => ?_, fun h => ?_⟩
    · by_contra hc
      exact absurd h (not_le.mpr (hlt b i j (Fin.lt_def.mpr (not_le.mp hc))))
    · rcases h.lt_or_eq with hl | he
      · exact (hlt b j i (Fin.lt_def.mpr hl)).le
      · rw [he]
  rw [decide_eq_decide.mpr hb]
  by_cases h : j.val ≤ i.val
  · rw [if_pos h, decide_eq_true h]
    show (((1 : ℕ) : ℝ) : EReal) = 1
    simp
  · rw [if_neg h, decide_eq_false h]
    show (((0 : ℕ) : ℝ) : EReal) = 0
    simp

omit hτ hlt in
/-- A sum over all rows of what is zero past row `i` is the sum over the rows up to `i`. -/
theorem sum_upto (f : Fin 512 → EReal) (g : ℕ → EReal) (i : Fin 512) (hle : ∀ j : Fin 512, j.val ≤ i.val → f j = g j.val)
    (hgt : ∀ j : Fin 512, ¬ j.val ≤ i.val → f j = 0) : ∑ j, f j = ∑ j ∈ Finset.range (i.val + 1), g j := by
  rw [Finset.sum_congr rfl (fun j _ => show f j = (fun k : ℕ => if k ≤ i.val then g k else 0) j.val from by
    by_cases h : j.val ≤ i.val
    · rw [hle j h]; exact (if_pos h).symm
    · rw [hgt j h]; exact (if_neg h).symm)]
  rw [Fin.sum_univ_eq_sum_range (fun k : ℕ => if k ≤ i.val then g k else 0) 512]
  rw [← Finset.sum_subset (Finset.range_subset_range.mpr (show i.val + 1 ≤ 512 by omega)) (fun k _ hk => if_neg (by
    rw [Finset.mem_range] at hk; omega))]
  exact Finset.sum_congr rfl (fun k hk => if_pos (by rw [Finset.mem_range] at hk; omega))

theorem out_apply (h : Vec Ideal S8x512x768 .f32) (e b : Vec Ideal S_ .f32) {β : ℝ} (hβ : b pt = (β : EReal)) (n : Fin 8) (i : Fin 512) (c : Fin 768) :
    out h t e b (ix3 n i c) = hawkes (e pt) β (τ n) (fun j => h (ix3 n ⟨j % 512, Nat.mod_lt _ (by decide)⟩ c)) i.val := by
  unfold out
  pointwise
  have hcol : ∀ k : Fin 512, h (ix3 n k c) = h (ix3 n ⟨k.val % 512, Nat.mod_lt _ (by decide)⟩ c) := fun k =>
    congrArg (fun x => h (ix3 n x c)) (Fin.ext (Nat.mod_eq_of_lt k.isLt).symm)
  have hb : b ix0 = (β : EReal) := (congrArg b (funext fun a => a.elim0)).trans hβ
  have he : e ix0 = e pt := congrArg e (funext fun a => a.elim0)
  refine congrArg₂ (· + ·) (sum_upto _ _ i (fun j hj => ?_) (fun j hj => ?_)) (sum_upto _ _ i (fun j hj => ?_) (fun j hj => ?_))
  · rw [mask_apply hτ hlt, if_pos hj, one_mul]; exact hcol j
  · rw [mask_apply hτ hlt, if_neg hj, zero_mul]
  · rw [mask_apply hτ hlt, if_pos hj, mul_one, lags_apply hτ, hb, he, exp_real, hcol j]; rfl
  · rw [mask_apply hτ hlt, if_neg hj, mul_zero, zero_mul]

end Cert.Proof.RIdeal
-- ==== Proof.PreOrdered.lean ====
/-
  What the precondition says: the rate is real, and every row of times is real and strictly rising.
-/
module

public import proofs.«01_k».proof.Pre_ordered
public import Idealize.ShloMosaic.Lib.ReduceAll
public import Idealize.ShloMosaic.Lib.Pointwise

@[expose] public section

noncomputable section

namespace Cert.Proof.Pre

open Cert.Pre_ordered Idealize.ShloMosaic

variable [Cert.Pre_ordered.Facts]

/-- The pattern of positive infinity denotes it. -/
theorem infinity : Ideal.ofBits .f32 0x7F800000#32 = ⊤ := by
  simp [Ideal.ofBits, Ideal.ieee]

/-- An infinite absolute value is not below positive infinity. -/
theorem infinite_abs {x : EReal} (hx : max x (-x) = ⊤) : ¬ FloatOps.cmpf (F := Ideal) (φ := .f32) .olt (FloatOps.hostAbsf x) ⊤ = 1#1 := by
  show ¬ BitVec.ofBool (decide (max x (-x) < ⊤)) = 1#1
  rw [hx]
  simp

/-- What lies below positive infinity in absolute value is real. -/
theorem real_of_abs {x : EReal} (h : FloatOps.cmpf (F := Ideal) (φ := .f32) .olt (FloatOps.hostAbsf x) (Ideal.ofBits .f32 0x7F800000#32) = 1#1) : x = ((x.toReal : ℝ) : EReal) := by
  rw [infinity] at h
  refine (EReal.coe_toReal (fun hx => ?_) (fun hx => ?_)).symm
  · subst hx; exact absurd h (infinite_abs (by simp))
  · subst hx; exact absurd h (infinite_abs (by simp))

/-- The rate is real, every time is real, and every time is above the one before it. -/
theorem ordered {h : FVec Ideal S8x512x768 .f32} {t : FVec Ideal S8x512 .f32} {e b : FVec Ideal S_ .f32} (hp : fn h t e b = fun _ => 1#1) :
    (∀ i, b i = (((b i).toReal : ℝ) : EReal)) ∧ (∀ i, t i = (((t i).toReal : ℝ) : EReal))
      ∧ ∀ (n : Fin 8) (k : Fin 511), t (ix2 n ⟨k.val, by omega⟩) < t (ix2 n ⟨k.val + 1, by omega⟩) := by
  obtain ⟨h12, h3⟩ := IntOp.andi_eq_one.1 (congrFun hp ix0)
  obtain ⟨h1, h2⟩ := IntOp.andi_eq_one.1 h12
  have : Subsingleton S_.Idx := ⟨fun i j => funext fun a => a.elim0⟩
  refine ⟨fun i => ?_, fun i => ?_, fun n k => ?_⟩
  · rw [Subsingleton.elim i ix0]
    exact real_of_abs h3
  · exact real_of_abs (Host.reduce_andi_all _ _ _ _ ix0 h2 i)
  · have hk := Host.reduce_andi_all _ _ _ _ ix0 h1 (ix2 n k)
    revert hk
    pointwise
    intro hk
    have hlt : t (ix2 n ⟨k.val, by omega⟩) < t (ix2 n ⟨1 + k.val, by omega⟩) := by
      by_contra hc
      rw [decide_eq_false hc] at hk
      exact absurd hk (by decide)
    exact hlt.trans_eq (congrArg (fun x => t (ix2 n x)) (Fin.ext (Nat.add_comm 1 k.val)))

/-- Rows whose every time is above the one before it rise strictly. -/
theorem rising {τ : ℕ → ℝ} (h : ∀ k : Fin 511, τ k.val < τ (k.val + 1)) : ∀ i j : Fin 512, i < j → τ i.val < τ j.val := by
  have hs : ∀ (n k : ℕ), k + n + 1 < 512 → τ k < τ (k + n + 1) := fun n => by
    induction n with
    | zero => exact fun k hk => h ⟨k, by omega⟩
    | succ n ih => exact fun k hk => (ih k (by omega)).trans (h ⟨k + n + 1, by omega⟩)
  intro i j hij
  have hlt : i.val < j.val := hij
  have := hs (j.val - i.val - 1) i.val (by omega)
  rwa [show i.val + (j.val - i.val - 1) + 1 = j.val by omega] at this

end Cert.Proof.Pre
-- ==== Proof.Algebraic.lean ====
/-
  The equation: where the times of every row rise strictly and they and the rate are real, the kernel and the
  reference end with equal arrays.
-/
module

public import proofs.«01_k».proof.Proof.Frames
public import proofs.«01_k».proof.Proof.KernelValue
public import proofs.«01_k».proof.Proof.RefValue
public import proofs.«01_k».proof.Proof.PreOrdered

@[expose] public section

noncomputable section

namespace Cert.Proof

open Idealize.ShloMosaic Idealize.SL.Sem

/-- The times of row `b`, as reals, past the last row zero. -/
def times (t : Vec Ideal Cert.KernelIdeal.S8x512 .f32) (b : Fin 8) (j : ℕ) : ℝ :=
  if h : j < 512 then (t (ix2 b ⟨j, h⟩)).toReal else 0

theorem times_val (t : Vec Ideal Cert.KernelIdeal.S8x512 .f32) (b : Fin 8) (j : Fin 512) : times t b j.val = (t (ix2 b j)).toReal := dif_pos j.isLt

/-- The array that the kernel ends with is the array that the reference computes. -/
theorem equal (m : (ℓ : Loc Cert.KernelIdeal.nD Cert.KernelIdeal.τ Cert.KernelIdeal.sig) → Buf (Elt Ideal) ℓ) (hp : Cert.Pre_KernelIdeal_ordered m) (d : Dev Cert.KernelIdeal.nD) :
    (KIdeal.Vend m d (Proc.devRef .tc Cert.KernelIdeal.main_v10) : Vec Ideal Cert.KernelIdeal.S8x512x768 .f32)
      = RIdeal.out (m (KIdeal.hLoc d)) (m (KIdeal.tLoc d)) (m (KIdeal.eLoc d)) (m (KIdeal.bLoc d)) := by
  obtain ⟨hb, ht, hs⟩ := Pre.ordered (hp d)
  have hτ : ∀ b (j : Fin 512), (m (KIdeal.tLoc d) : Vec Ideal Cert.KernelIdeal.S8x512 .f32) (ix2 b j) = ((times (m (KIdeal.tLoc d)) b j.val : ℝ) : EReal) := fun b j =>
    (ht (ix2 b j)).trans (congrArg (fun x : ℝ => (x : EReal)) (times_val _ b j).symm)
  have hlt : ∀ b (i j : Fin 512), i < j → times (m (KIdeal.tLoc d)) b i.val < times (m (KIdeal.tLoc d)) b j.val := fun b =>
    Pre.rising fun k => by
      have h1 := hτ b ⟨k.val, by omega⟩
      have h2 := hτ b ⟨k.val + 1, by omega⟩
      exact EReal.coe_lt_coe_iff.mp (h1 ▸ h2 ▸ hs b k)
  funext u
  obtain ⟨b, i, c, rfl⟩ : ∃ (b : Fin 8) (i : Fin 512) (c : Fin 768), u = ix3 b i c := ⟨u 0, u 1, u 2, funext fun a => by
    match a with
    | ⟨0, _⟩ => rfl
    | ⟨1, _⟩ => rfl
    | ⟨2, _⟩ => rfl⟩
  refine (KIdeal.kernel_value m d (hb KIdeal.pt) hτ b i c).trans ?_
  refine Eq.trans ?_ (RIdeal.out_apply hτ hlt (m (KIdeal.hLoc d)) (m (KIdeal.eLoc d)) (m (KIdeal.bLoc d)) (hb RIdeal.pt) b i c).symm
  have hpt : KIdeal.pt = RIdeal.pt := funext fun a => a.elim0
  rw [hpt]
  refine congrArg (fun f => Sums.hawkes _ _ _ f i.val) (funext fun j => congrArg (m (KIdeal.hLoc d)) (funext fun a => Fin.ext ?_))
  match a with
  | ⟨0, _⟩ => exact Nat.mod_eq_of_lt b.isLt
  | ⟨1, _⟩ => rfl
  | ⟨2, _⟩ => exact Nat.mod_eq_of_lt c.isLt

set_option maxHeartbeats 4000000 in
theorem algebraic : Cert.algebraic_KernelIdeal_ReferenceIdeal_pre_ordered := fun m g m' g' hp hm => by
  refine ⟨fun c => KIdeal.Vend m c (Proc.devRef .tc Cert.KernelIdeal.main_v10), ?_, ?_⟩
  · exact (θ_run Cert.KernelIdeal.defs _ _).mono
      (fun _ h c => ⟨(h.1 c).1, (h.1 c).2 _ (.inl rfl), (h.1 c).2 _ (.inr (.inl rfl)), (h.1 c).2 _ (.inr (.inr (.inl rfl))), (h.1 c).2 _ (.inr (.inr (.inr rfl)))⟩)
      (KIdeal.run_main (F := Ideal) m g)
  · refine (θ_run Cert.ReferenceIdeal.defs _ _).mono (fun r h c => ⟨?_, (h c).2⟩) (Cert.ReferenceIdeal.Value.run (F := Ideal) m' g')
    refine (h c).1.trans ?_
    obtain ⟨h0, h1, h2, h3⟩ := hm c
    rw [h0, h1, h2, h3]
    exact (equal m hp c).symm

end Cert.Proof
-- ==== Proof.lean ====
/- The proof of the claims about the heat layer's kernel and its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section
namespace Cert.Proof
open Idealize.ShloMosaic Idealize.SL.Sem Cert.Kernel

theorem claim : Cert.Claim :=
  ⟨Cert.Kernel.Gen.facts, Cert.KernelIdeal.Gen.facts, Cert.ReferenceIdeal.Gen.facts, factsOrdered, frame_kernel, frame_ideal, frame_ideal_ordered,
    frame_reference, frame_reference_ordered, trivial, algebraic⟩

end Cert.Proof
